-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S256x512 : Shape := ⟨2, ![256, 512]⟩
abbrev S6x256x512 : Shape := ⟨3, ![6, 256, 512]⟩
abbrev S6 : Shape := ⟨1, ![6]⟩
abbrev S_ : Shape := ⟨0, ![]⟩
abbrev S256x256 : Shape := ⟨2, ![256, 256]⟩
abbrev S1x256x512 : Shape := ⟨3, ![1, 256, 512]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S256x1024, .f32⟩
  | .local _ .vmem, ⟨0, _⟩ => ⟨S1024x256, .f32⟩
  | .local _ .vmem, ⟨1, _⟩ => ⟨S256x1024, .f32⟩
  | .local _ .vmem, ⟨2, _⟩ => ⟨S256x1024, .f32⟩
  | .local _ .vmem, ⟨3, _⟩ => ⟨S256x512, .f32⟩
  | .local _ .vmem, ⟨4, _⟩ => ⟨S256x512, .f32⟩
  | .local _ .vmem, ⟨5, _⟩ => ⟨S256x1024, .f32⟩
  | .local _ .vmem, ⟨6, _⟩ => ⟨S6x256x512, .bf16⟩
  | .local _ .vmem, ⟨7, _⟩ => ⟨S6x256x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c2_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.addi v2 c2_i32_10
  let c8_i32 : BitVec 32 := 8#32
  let v14 : BitVec 32 := Scalar.addi v13 c8_i32
  let c4_i32_11 : BitVec 32 := 4#32
  let v15 : BitVec 32 := Scalar.remsi v14 c4_i32_11
  let c256_i32 : BitVec 32 := 256#32
  let v16 : BitVec 32 := Scalar.muli v15 c256_i32
  let v17 : Index := Scalar.indexCast v16
  let c0 : Index := 0#32
  ![v17.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_21 : BitVec 32 := 1#32
  let v27 : BitVec 32 := Scalar.muli v5 c1_i32_21
  let v28 : BitVec 32 := Scalar.addi c0_i32_22 v27
  v28.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_40 : BitVec 32 := 1#32
  let v51 : BitVec 32 := Scalar.muli v7 c1_i32_40
  let v52 : BitVec 32 := Scalar.addi c0_i32_41 v51
  v52.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_60 : BitVec 32 := 1#32
  let v75 : BitVec 32 := Scalar.muli v7 c1_i32_60
  let v76 : BitVec 32 := Scalar.addi c0_i32_61 v75
  v76.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_66 : BitVec 32 := 1#32
  let v85 : BitVec 32 := Scalar.subi v2 c1_i32_66
  let c8_i32_67 : BitVec 32 := 8#32
  let v86 : BitVec 32 := Scalar.addi v85 c8_i32_67
  let c4_i32_68 : BitVec 32 := 4#32
  let v87 : BitVec 32 := Scalar.remsi v86 c4_i32_68
  let c256_i32_69 : BitVec 32 := 256#32
  let v88 : BitVec 32 := Scalar.muli v87 c256_i32_69
  let v89 : Index := Scalar.indexCast v88
  let c0_70 : Index := 0#32
  ![v89.toNat, 0]
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_79 : BitVec 32 := 1#32
  let v99 : BitVec 32 := Scalar.muli v5 c1_i32_79
  let v100 : BitVec 32 := Scalar.addi c0_i32_80 v99
  v100.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_126 : BitVec 32 := 1#32
  let v152 : BitVec 32 := Scalar.muli v5 c1_i32_126
  let v153 : BitVec 32 := Scalar.addi c0_i32_127 v152
  v153.toNat
def k0_dev8 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_152 : BitVec 32 := 1#32
  let v179 : BitVec 32 := Scalar.muli v7 c1_i32_152
  let v180 : BitVec 32 := Scalar.addi c0_i32_153 v179
  v180.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_158 : BitVec 32 := 8#32
  let v189 : BitVec 32 := Scalar.addi v2 c8_i32_158
  let c4_i32_159 : BitVec 32 := 4#32
  let v190 : BitVec 32 := Scalar.remsi v189 c4_i32_159
  let c256_i32_160 : BitVec 32 := 256#32
  let v191 : BitVec 32 := Scalar.muli v190 c256_i32_160
  let v192 : Index := Scalar.indexCast v191
  let c0_161 : Index := 0#32
  ![v192.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Slots.lean ====
/-
# The ring of devices, the transfer slots and what they hold

Four devices stand in a ring. Each holds a 256-column shard of `x` and the matching 256-row shard of `w`; device `c` ends with rows
`256 c … 256 c + 255` of `x w`. The columns are done in two halves of 512 (A, then B). Device `c` multiplies the
row blocks of its shard of `x` with its shard of `w` and passes partial products on in six FLOWS, each one slot of a send buffer
copied into the same slot of a neighbour's receive buffer:

  flow 0  half A of row block `c + 2`, to the left     flow 1  half B of row block `c + 2`, to the right
  flow 2  half A of row block `c + 1`, to the right    flow 3  half B of row block `c − 1`, to the left
  flow 4  half A of row block `c − 1` plus what flow 0 brought, to the left
  flow 5  half B of row block `c + 1` plus what flow 1 brought, to the right

This module names the ring, the slots, the semaphores and the contents each flow carries. It is generic in the float values.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring.FamCut

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- Which flows go to the left neighbour. -/
def goesLeft : Fin 6 → Bool := ![true, false, false, true, true, false]

/-- Where flow `f` of device `c` lands, and whose flow `f` lands at device `d`. -/
def tgt (f : Fin 6) (c : Dev nD) : Dev nD := if goesLeft f then prv c else nxt c
def frm (f : Fin 6) (d : Dev nD) : Dev nD := if goesLeft f then nxt d else prv d

theorem frm_tgt (f : Fin 6) (c : Dev nD) : frm f (tgt f c) = c := by revert f c; decide
theorem tgt_frm (f : Fin 6) (d : Dev nD) : tgt f (frm f d) = d := by revert f d; decide

/-- Landing is a bijection of the pairs of a device and a flow. -/
def landing : Dev nD × Fin 6 ≃ Dev nD × Fin 6 :=
  ⟨fun p => (tgt p.2 p.1, p.2), fun p => (frm p.2 p.1, p.2), fun p => by simp [frm_tgt], fun p => by simp [tgt_frm]⟩

def ring : Dev nD ≃ Dev nD := ⟨nxt, prv, prv_nxt, nxt_prv⟩

/-! ## The device numbers the kernel computes -/

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = tgt 0 c := Fin.ext (k0_dev3_eq c)
theorem dev4_eq (c : Dev nD) : (⟨k0_dev4 c, k0_dev4_lt c⟩ : Dev nD) = tgt 1 c := Fin.ext (k0_dev4_eq c)
theorem dev5_eq (c : Dev nD) : (⟨k0_dev5 c, k0_dev5_lt c⟩ : Dev nD) = tgt 2 c := Fin.ext (k0_dev5_eq c)
theorem dev6_eq (c : Dev nD) : (⟨k0_dev6 c, k0_dev6_lt c⟩ : Dev nD) = tgt 3 c := Fin.ext (k0_dev6_eq c)
theorem dev7_eq (c : Dev nD) : (⟨k0_dev7 c, k0_dev7_lt c⟩ : Dev nD) = tgt 4 c := Fin.ext (k0_dev7_eq c)
theorem dev8_eq (c : Dev nD) : (⟨k0_dev8 c, k0_dev8_lt c⟩ : Dev nD) = tgt 5 c := Fin.ext (k0_dev8_eq c)

/-! ## Buffers and slots -/

abbrev xM : Memref sig .tc .vmem S1024x256 .f32 := Memref.whole cc0_stg0_0
abbrev wM : Memref sig .tc .vmem S256x1024 .f32 := Memref.whole cc0_stg1_0
abbrev oM : Memref sig .tc .vmem S256x1024 .f32 := Memref.whole cc0_stg2_0
abbrev aM : Memref sig .tc .vmem S256x512 .f32 := Memref.whole cc0_scratch0
abbrev bM : Memref sig .tc .vmem S256x512 .f32 := Memref.whole cc0_scratch1
abbrev pM : Memref sig .tc .vmem S256x1024 .f32 := Memref.whole cc0_scratch2
abbrev sM : Memref sig .tc .vmem S6x256x512 .bf16 := Memref.whole cc0_scratch3
abbrev rM : Memref sig .tc .vmem S6x256x512 .bf16 := Memref.whole cc0_scratch4

theorem slot_inb (f : Fin 6) : ∀ a, (![f.val, 0, 0] : Fin 3 → ℕ) a + S1x256x512.size a ≤ S6x256x512.size a := by
  revert f; decide

/-- Slot `f` of a six-slot buffer. -/
abbrev slotRect (f : Fin 6) : Rect S6x256x512 := Rect.unit (s := S6x256x512) ![f.val, 0, 0] S1x256x512.size (slot_inb f)

theorem slot_disjoint {f f' : Fin 6} (h : f ≠ f') : Disjoint (slotRect f).set (slotRect f').set :=
  Rect.unit_disjoint 0 (by
    have : f.val ≠ f'.val := fun e => h (Fin.ext e)
    show f.val + 1 ≤ f'.val ∨ f'.val + 1 ≤ f.val
    omega)

/-- Slot `f` of the send buffer, and of the receive buffer; -/
abbrev sslot (f : Fin 6) : Memref sig .tc .vmem S1x256x512 .bf16 := sM.slice (slotRect f) (fun _ => rfl)
abbrev rslot (f : Fin 6) : Memref sig .tc .vmem S1x256x512 .bf16 := rM.slice (slotRect f) (fun _ => rfl)
/-- the same elements as a matrix, as the transfers name them. -/
abbrev sflat (f : Fin 6) : Memref sig .tc .vmem S256x512 .bf16 := (sslot f).squeeze S256x512 squeezes_S1x256x512_S256x512
abbrev rflat (f : Fin 6) : Memref sig .tc .vmem S256x512 .bf16 := (rslot f).squeeze S256x512 squeezes_S1x256x512_S256x512

/-! ## The semaphores -/

/-- The barrier semaphore the runtime hands the kernel (not scoped to the launch). -/
abbrev barS : Sem sig := (SemArray.scalar (sig.barrier 0 rfl) : Sems sig S_).sem

set_option backward.proofsInPublic true in
/-- Flow `f`'s semaphore at its sender (`false`) and at its receiver (`true`). -/
def semOf (b : Bool) (f : Fin 6) : DmaSem sig :=
  ⟨(if b then 9 else 3) + f.val, by have := f.isLt; show _ < 15; split <;> omega⟩

abbrev sendSem (f : Fin 6) : DmaSem sig := semOf false f
abbrev recvSem (f : Fin 6) : DmaSem sig := semOf true f

/-- Which flow a semaphore serves, and at which end. -/
def flowOf : SemLoc sig → Option (Bool × Fin 6)
  | .reg _ => none
  | .dma q => if h : 3 ≤ q.val ∧ q.val < 9 then some (false, ⟨q.val - 3, by omega⟩)
      else if h : 9 ≤ q.val ∧ q.val < 15 then some (true, ⟨q.val - 9, by omega⟩) else none

theorem flowOf_semOf (b : Bool) (f : Fin 6) : flowOf (.dma (semOf b f)) = some (b, f) := by revert b f; decide
theorem flowOf_bar : flowOf (.reg barS) = none := rfl

theorem semOf_inj {b b' : Bool} {f f' : Fin 6} (h : semOf b f = semOf b' f') : (b, f) = (b', f') := by
  have := (flowOf_semOf b f).symm.trans ((congrArg (fun q => flowOf (.dma q)) h).trans (flowOf_semOf b' f'))
  exact Option.some.inj this

abbrev barCell (c : Dev nD) : GSem nD τ sig := ((c : Thread nD τ), .reg barS)
abbrev flowCell (c : Dev nD) (b : Bool) (f : Fin 6) : GSem nD τ sig := ((c : Thread nD τ), .dma (semOf b f))
abbrev sendCell (c : Dev nD) (f : Fin 6) : GSem nD τ sig := flowCell c false f
abbrev recvCell (c : Dev nD) (f : Fin 6) : GSem nD τ sig := flowCell c true f

/-- What one slot's transfer credits. -/
abbrev N : ℕ := (rflat 0).view.dmaCredit
theorem N_pos : 0 < N := View.dmaCredit_pos _ (by decide)
theorem credit_r (f : Fin 6) : (rflat f).view.dmaCredit = N := rfl
theorem credit_s (f : Fin 6) : (sflat f).view.dmaCredit = N := rfl

/-! ## The contents -/

/-- Device `c`'s shard of `x` and of `w`, as staged. -/
def xv (c : Dev nD) : (cc0_stg0_0 : Ref sig .tc).ty.Contents (Elt F) :=
  (win0_0.blk (0 : Fin 1)).view.read (Elt F) ((s₀ m ρ).mem ((c : Thread nD τ).loc main_arg0))
def wv (c : Dev nD) : (cc0_stg1_0 : Ref sig .tc).ty.Contents (Elt F) :=
  (win0_1.blk (0 : Fin 1)).view.read (Elt F) ((s₀ m ρ).mem ((c : Thread nD τ).loc main_arg1))

abbrev rectP2 (c : Dev nD) : Rect S1024x256 := Rect.unit (s := S1024x256) (k0_off1 c 2#32) S256x256.size (k0_off1_inb c 1)
abbrev rectP1 (c : Dev nD) : Rect S1024x256 := Rect.unit (s := S1024x256) (k0_off1 c 1#32) S256x256.size (k0_off1_inb c 0)
abbrev rectM1 (c : Dev nD) : Rect S1024x256 := Rect.unit (s := S1024x256) (k0_off2 c) S256x256.size (k0_off2_inb c)
abbrev rectOwn (c : Dev nD) : Rect S1024x256 := Rect.unit (s := S1024x256) (k0_off3 c) S256x256.size (k0_off3_inb c)
abbrev colsA : Rect S256x1024 := Rect.unit (s := S256x1024) ![0, 0] S256x512.size inb_S256x1024_S256x512_0_0
abbrev colsB : Rect S256x1024 := Rect.unit (s := S256x1024) ![0, 512] S256x512.size inb_S256x1024_S256x512_0_512

/-- The row blocks `c + 2`, `c + 1`, `c − 1` and `c` of the shard of `x`, the two column halves of the shard of `w`. -/
def xP2 (c : Dev nD) : Vec F S256x256 .f32 := xM.view.readAt (Elt F) (rectP2 c).toLoadRect (xv m ρ c)
def xP1 (c : Dev nD) : Vec F S256x256 .f32 := xM.view.readAt (Elt F) (rectP1 c).toLoadRect (xv m ρ c)
def xM1 (c : Dev nD) : Vec F S256x256 .f32 := xM.view.readAt (Elt F) (rectM1 c).toLoadRect (xv m ρ c)
def xOwn (c : Dev nD) : Vec F S256x256 .f32 := xM.view.readAt (Elt F) (rectOwn c).toLoadRect (xv m ρ c)
def wA (c : Dev nD) : Vec F S256x512 .f32 := wM.view.readAt (Elt F) colsA.toLoadRect (wv m ρ c)
def wB (c : Dev nD) : Vec F S256x512 .f32 := wM.view.readAt (Elt F) colsB.toLoadRect (wv m ρ c)

/-- The two partial products a device keeps until the first transfers bring theirs. -/
def keepA (c : Dev nD) : Vec F S256x512 .f32 := k0_pay6 (k0_pay5 (xM1 m ρ c) (wA m ρ c))
def keepB (c : Dev nD) : Vec F S256x512 .f32 := k0_pay7 (xP1 m ρ c) (wB m ρ c)

def sent0 (c : Dev nD) : Vec F S1x256x512 .bf16 := k0_pay1 (xP2 m ρ c) (wA m ρ c)
def sent1 (c : Dev nD) : Vec F S1x256x512 .bf16 := k0_pay2 (xP2 m ρ c) (wB m ρ c)

/-- What flow `f` of device `c` carries. -/
def sent (f : Fin 6) (c : Dev nD) : Vec F S1x256x512 .bf16 :=
  (![sent0 m ρ c, sent1 m ρ c, k0_pay3 (xP1 m ρ c) (wA m ρ c), k0_pay4 (xM1 m ρ c) (wB m ρ c),
    k0_pay9 (k0_pay8 (keepA m ρ c) (sent0 m ρ (nxt c))), k0_pay11 (k0_pay10 (keepB m ρ c) (sent1 m ρ (prv c)))] : Fin 6 → Vec F S1x256x512 .bf16) f

/-- What lands at device `d` by flow `f`. -/
def landed (f : Fin 6) (d : Dev nD) : Vec F S1x256x512 .bf16 := sent m ρ f (frm f d)

/-- A device's own product, and the two halves of its result. -/
def own (c : Dev nD) : (cc0_scratch2 : Ref sig .tc).ty.Contents (Elt F) := k0_pay12 (xOwn m ρ c) (wv m ρ c)
def ownA (c : Dev nD) : Vec F S256x512 .f32 := pM.view.readAt (Elt F) colsA.toLoadRect (own m ρ c)
def ownB (c : Dev nD) : Vec F S256x512 .f32 := pM.view.readAt (Elt F) colsB.toLoadRect (own m ρ c)
def outA (c : Dev nD) : Vec F S256x512 .f32 := k0_pay13 (ownA m ρ c) (landed m ρ 2 c) (landed m ρ 4 c)
def outB (c : Dev nD) : Vec F S256x512 .f32 := k0_pay14 (ownB m ρ c) (landed m ρ 3 c) (landed m ρ 5 c)

/-- Device `c`'s result: half A in columns 0 to 511, half B in the rest. -/
def out (c : Dev nD) : (cc0_stg2_0 : Ref sig .tc).ty.Contents (Elt F) :=
  (oM.access colsB).write (Elt F) ((oM.access colsA).write (Elt F) (own m ρ c) (outA m ρ c) Finset.univ) (outB m ρ c) Finset.univ

omit [FloatOps F] in
/-- Every column is in half A or in half B. -/
theorem cols_cover (i : S256x1024.Idx) : i ∈ (oM.access colsA).setOn Finset.univ ∨ i ∈ (oM.access colsB).setOn Finset.univ := by
  show i ∈ (oM.access colsA).set ∨ i ∈ (oM.access colsB).set
  rw [show (oM.access colsA).set = colsA.set from View.set_slice_whole _ _, show (oM.access colsB).set = colsB.set from View.set_slice_whole _ _,
    Rect.mem_set_unit, Rect.mem_set_unit]
  have h0 : (i 0).val < 256 := (i 0).isLt
  have h1 : (i 1).val < 1024 := (i 1).isLt
  rcases Nat.lt_or_ge (i 1).val 512 with h | h
  · left; intro a; fin_cases a
    · exact ⟨Nat.zero_le _, h0⟩
    · exact ⟨Nat.zero_le _, h⟩
  · right; intro a; fin_cases a
    · exact ⟨Nat.zero_le _, h0⟩
    · exact ⟨h, h1⟩

omit [FloatOps F] in
/-- Both halves written, the buffer's former contents are gone. -/
theorem write_halves (f g : (cc0_stg2_0 : Ref sig .tc).ty.Contents (Elt F)) (A B : Vec F S256x512 .f32) :
    (oM.access colsB).write (Elt F) ((oM.access colsA).write (Elt F) f A Finset.univ) B Finset.univ
      = (oM.access colsB).write (Elt F) ((oM.access colsA).write (Elt F) g A Finset.univ) B Finset.univ := by
  funext i
  by_cases hB : i ∈ (oM.access colsB).setOn Finset.univ
  · obtain ⟨x, -, rfl⟩ := Finset.mem_map.mp hB
    rw [View.write_emb_of_mem _ _ (Finset.mem_univ x), View.write_emb_of_mem _ _ (Finset.mem_univ x)]
  · rw [View.write_of_not_mem _ _ _ hB, View.write_of_not_mem _ _ _ hB]
    rcases cols_cover i with hA | hB'
    · obtain ⟨x, -, rfl⟩ := Finset.mem_map.mp hA
      rw [View.write_emb_of_mem _ _ (Finset.mem_univ x), View.write_emb_of_mem _ _ (Finset.mem_univ x)]
    · exact absurd hB' hB

omit [FloatOps F] in
/-- A slot of a receive buffer, a slot of a send buffer copied into it as matrices: what it reads is what the send slot read. -/
theorem read_copied (f : Fin 6) (fd : (cc0_scratch4 : Ref sig .tc).ty.Contents (Elt F)) (fs : (cc0_scratch3 : Ref sig .tc).ty.Contents (Elt F)) :
    (rslot f).view.read (Elt F) ((rflat f).view.write (Elt F) fd ((sflat f).view.read (Elt F) fs) Finset.univ) = (sslot f).view.read (Elt F) fs := by
  have h := View.read_write_univ (v := (rflat f).view) fd ((sflat f).view.read (Elt F) fs)
  funext x
  have e := congrFun h ((Shape.reshapeEquiv (squeezes_S1x256x512_S256x512).numel_eq).symm x)
  have e1 : ∀ (g : (cc0_scratch4 : Ref sig .tc).ty.Contents (Elt F)) y, (rflat f).view.read (Elt F) g y
      = (rslot f).view.read (Elt F) g (Shape.reshapeEquiv (squeezes_S1x256x512_S256x512).numel_eq y) := fun _ _ => rfl
  have e2 : ∀ (g : (cc0_scratch3 : Ref sig .tc).ty.Contents (Elt F)) y, (sflat f).view.read (Elt F) g y
      = (sslot f).view.read (Elt F) g (Shape.reshapeEquiv (squeezes_S1x256x512_S256x512).numel_eq y) := fun _ _ => rfl
  rw [e1, e2, Equiv.apply_symm_apply] at e
  exact e

end Cert.Mesh

end
-- ==== Proof.Protocol.lean ====
/-
# The protocol of the transfers

Every semaphore is used for one round.

  * The barrier cell of device `e` takes two signals of one unit: from its right neighbour (duty `true`), handing `e` the receive slots
    there that `e`'s right-going flows fill, and from its left neighbour (duty `false`), handing it the slots its left-going flows fill.
    Device `e` waits for both before it sends.
  * The send cell of a flow takes the credit of the sender's own copy once its source may be overwritten: it hands the send slot back.
  * The receive cell of a flow takes the credit of the landing: it hands over the receive slot, holding what the sender sent.

A device owes its two barrier signals and its six landings at launch. Levels: staging and send cells 0, barrier cells 1, the
receive cells of flows 0 to 3 at 2, those of flows 4 and 5 at 3 — so each wait stays below what the waiting device still owes.
-/
module

public import proofs.«01_k».proof.Proof.Slots

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the transfers' -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The payloads -/

/-- A slot of the receive buffer, and of the send buffer, at some contents. -/
def freeR (c : Dev nD) (f : Fin 6) : sProp 𝕄 :=
  iprop(∃ g, (rslot f).view.loc (c : Thread nD τ) ↦[(rslot f).view.set]{fullShare} g)
def freeS (c : Dev nD) (f : Fin 6) : sProp 𝕄 :=
  iprop(∃ g, (sslot f).view.loc (c : Thread nD τ) ↦[(sslot f).view.set]{fullShare} g)

/-- What the neighbours' barrier signals hand device `e`: the slots its flows fill. -/
def barPay (e : Dev nD) (d : Bool) : sProp 𝕄 :=
  if d then iprop(freeR (nxt e) 1 ∗ freeR (nxt e) 2 ∗ freeR (nxt e) 5) else iprop(freeR (prv e) 0 ∗ freeR (prv e) 3 ∗ freeR (prv e) 4)

/-- The send slot of flow `f` on `c` with what it sends; the receive slot of flow `f` on `d` with what lands there. -/
def sendPay (c : Dev nD) (f : Fin 6) : sProp 𝕄 := owns (c : Thread nD τ) (sslot f) fullShare (sent m ρ f c)
def recvPay (d : Dev nD) (f : Fin 6) : sProp 𝕄 := owns (d : Thread nD τ) (rslot f) fullShare (landed m ρ f d)

omit [FloatOps F] in
instance freeR_storable (c : Dev nD) (f : Fin 6) : BI.Storable (upEmb : UEmb _ 𝕄) (freeR (F := F) c f) := by unfold freeR; infer_instance
omit [FloatOps F] in
instance barPay_storable (c : Dev nD) (d : Bool) : BI.Storable (upEmb : UEmb _ 𝕄) (barPay (F := F) c d) := by
  unfold barPay; split <;> infer_instance
instance sendPay_storable (c : Dev nD) (f : Fin 6) : BI.Storable (upEmb : UEmb _ 𝕄) (sendPay (F := F) m ρ c f) := by unfold sendPay; infer_instance
instance recvPay_storable (c : Dev nD) (f : Fin 6) : BI.Storable (upEmb : UEmb _ 𝕄) (recvPay (F := F) m ρ c f) := by unfold recvPay; infer_instance

/-- The payload of a flow's cell at either end. -/
def flowPay (c : Dev nD) : Bool → Fin 6 → sProp 𝕄
  | false, f => sendPay m ρ c f
  | true, f => recvPay m ρ c f

instance flowPay_storable (c : Dev nD) (b : Bool) (f : Fin 6) : BI.Storable (upEmb : UEmb _ 𝕄) (flowPay (F := F) m ρ c b f) := by
  cases b <;> (unfold flowPay; infer_instance)

def payOf (g : GSem nD τ sig) : Option (Bool × Fin 6) → sProp 𝕄
  | none => iprop(emp)
  | some (b, f) => flowPay m ρ g.1.1 b f

instance payOf_storable (g : GSem nD τ sig) (o : Option (Bool × Fin 6)) : BI.Storable (upEmb : UEmb _ 𝕄) (payOf (F := F) m ρ g o) := by
  rcases o with _ | ⟨b, f⟩ <;> (unfold payOf; infer_instance)

/-! ## The schedule -/

def rd : Rounds.Schedule (GSem nD τ sig) Bool 𝕄 where
  duties g r := if r = 0 ∧ g.1.2 = .tc then (if g.2 = .reg barS then Finset.univ else if (flowOf g.2).isSome then {false} else ∅) else ∅
  unitless _ := False
  amount g _ _ := if g.2 = .reg barS then 1 else N
  payload g _ d := if g.2 = .reg barS then barPay g.1.1 d else payOf m ρ g (flowOf g.2)
  amount_pos g _ _ _ := by
    by_cases h : g.2 = .reg barS
    · rw [if_pos h]; exact Nat.one_pos
    · rw [if_neg h]; exact N_pos

instance rd_payload_storable (g : GSem nD τ sig) (r : ℕ) (d : Bool) : BI.Storable (upEmb : UEmb _ 𝕄) ((rd (F := F) m ρ).payload g r d) := by
  show BI.Storable upEmb (if g.2 = .reg barS then barPay g.1.1 d else payOf m ρ g (flowOf g.2))
  split <;> infer_instance

section Sched
variable (c : Dev nD) (b : Bool) (f : Fin 6)

theorem sem_ne_bar (q : DmaSem sig) : (SemLoc.dma q : SemLoc sig) ≠ .reg barS := fun h => by cases h

theorem duties_bar : (rd (F := F) m ρ).duties (barCell c) 0 = Finset.univ := by
  dsimp only [rd]; rw [if_pos ⟨rfl, rfl⟩]; exact if_pos rfl
theorem duties_flow : (rd (F := F) m ρ).duties (flowCell c b f) 0 = {false} := by
  dsimp only [rd]; rw [if_pos ⟨rfl, rfl⟩, if_neg (sem_ne_bar _), flowOf_semOf]; rfl
theorem duties_later (g : GSem nD τ sig) : ∀ r, 1 ≤ r → (rd (F := F) m ρ).duties g r = ∅ :=
  fun r hr => by dsimp only [rd]; rw [if_neg fun h => by omega]

theorem amount_bar (d : Bool) : (rd (F := F) m ρ).amount (barCell c) 0 d = 1 := by dsimp only [rd]; exact if_pos rfl
theorem amount_flow (d : Bool) : (rd (F := F) m ρ).amount (flowCell c b f) 0 d = N := by dsimp only [rd]; exact if_neg (sem_ne_bar _)

theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_flow : (rd (F := F) m ρ).expect (flowCell c b f) 0 = N := by
  unfold Schedule.expect Schedule.amountOf; rw [duties_flow, Finset.sum_singleton, amount_flow]

theorem payload_bar (d : Bool) : (rd (F := F) m ρ).payload (barCell c) 0 d = barPay c d := by dsimp only [rd]; exact if_pos rfl
theorem payload_flow (d : Bool) : (rd (F := F) m ρ).payload (flowCell c b f) 0 d = flowPay m ρ c b f := by
  dsimp only [rd]; rw [if_neg (sem_ne_bar _), flowOf_semOf]; rfl

/-- What the barrier wait takes: both neighbours' slots. -/
theorem rest_bar : bigSep ((rd (F := F) m ρ).duties (barCell c) 0 \ ∅) (fun d => (rd (F := F) m ρ).payload (barCell c) 0 d)
    = iprop((freeR (prv c) 0 ∗ freeR (prv c) 3 ∗ freeR (prv c) 4) ∗ freeR (nxt c) 1 ∗ freeR (nxt c) 2 ∗ freeR (nxt c) 5) := by
  rw [Finset.sdiff_empty, duties_bar, bigSep_univ_eq_bigSepL [false, true] (by decide) (by decide), bigSepL_cons_cons, bigSepL_singleton,
    payload_bar, payload_bar]
  rfl
theorem rest_flow : bigSep ((rd (F := F) m ρ).duties (flowCell c b f) 0 \ ∅) (fun d => (rd (F := F) m ρ).payload (flowCell c b f) 0 d)
    = flowPay m ρ c b f := by
  rw [Finset.sdiff_empty, duties_flow, bigSep_singleton, payload_flow]

end Sched

/-! ## What each device owes; the levels -/

/-- The landings of device `c`'s flows in the list `l`, the head paid first. -/
def owedTo (c : Dev nD) : List (Fin 6) → CellTallies nD τ sig Unit
  | [] => 0
  | f :: l => owedTo c l + tallyAt (recvCell (tgt f c) f) () N

abbrev flows : List (Fin 6) := [0, 1, 2, 3, 4, 5]

/-- The first signal goes to the left neighbour and pays the last summand, the second to the right and pays the one before. -/
def O₁ (c : Dev nD) : CellTallies nD τ sig Unit := owedTo c flows + tallyAt (barCell (nxt c)) () 1
def O₀ (c : Dev nD) : CellTallies nD τ sig Unit := O₁ c + tallyAt (barCell (prv c)) () 1

theorem tally_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

theorem owedTo_pos {c : Dev nD} {g : GSem nD τ sig} {u : Unit} : ∀ {l : List (Fin 6)}, 0 < owedTo c l g u → ∃ f ∈ l, g = recvCell (tgt f c) f
  | [], h => absurd h (Nat.lt_irrefl 0)
  | f :: l, h => by
    unfold owedTo at h
    rw [Pi.add_apply, Finsupp.add_apply] at h
    rcases Nat.eq_zero_or_pos (owedTo c l g u) with h0 | h0
    · rw [h0, Nat.zero_add] at h
      exact ⟨f, List.mem_cons_self, tally_pos h⟩
    · obtain ⟨f', hf', e⟩ := owedTo_pos h0
      exact ⟨f', List.mem_cons_of_mem _ hf', e⟩

theorem O₀_pos {c : Dev nD} {g : GSem nD τ sig} {u : Unit} (h : 0 < O₀ c g u) :
    (∃ e, g = barCell e) ∨ ∃ f, g = recvCell (tgt f c) f := by
  unfold O₀ O₁ at h
  rw [Pi.add_apply, Finsupp.add_apply, Pi.add_apply, Finsupp.add_apply] at h
  rcases Nat.eq_zero_or_pos (tallyAt (barCell (prv c)) () 1 g u) with h0 | h0
  · rw [h0, Nat.add_zero] at h
    rcases Nat.eq_zero_or_pos (tallyAt (barCell (nxt c)) () 1 g u) with h1 | h1
    · rw [h1, Nat.add_zero] at h
      obtain ⟨f, -, e⟩ := owedTo_pos h
      exact .inr ⟨f, e⟩
    · exact .inl ⟨_, tally_pos h1⟩
  · exact .inl ⟨_, tally_pos h0⟩

def L (g : GSem nD τ sig) : Finset Unit := if g.1.2 = .tc then {()} else ∅

/-- The level of a flow's receive cell. -/
def flowLv (f : Fin 6) : ℕ := if f.val < 4 then 2 else 3
def semLv (sm : SemLoc sig) : ℕ := if sm = .reg barS then 1 else
  match flowOf sm with
  | some (true, f) => flowLv f
  | _ => 0
def lv (g : GSem nD τ sig) (_ : Unit) : ℕ := semLv g.2

theorem semLv_bar : semLv (.reg barS) = 1 := if_pos rfl
theorem semLv_recv (f : Fin 6) : semLv (.dma (recvSem f)) = flowLv f := by
  unfold semLv; rw [if_neg (sem_ne_bar _), flowOf_semOf]
theorem flowLv_ge (f : Fin 6) : 2 ≤ flowLv f := by unfold flowLv; split <;> omega

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A wait below everything the device still owes. -/
theorem mayWait_owed (c : Dev nD) (sm : SemLoc sig) (l : List (Fin 6)) (h : ∀ f ∈ l, semLv sm < flowLv f) :
    (levAts L lv : sProp 𝕄) ⊢ MayWait (c : Thread nD τ) sm () (owedTo c l) :=
  MayOwe.of_cut (L := L) (lev := lv) (semLv sm) (fun p hp => by rw [Finset.mem_singleton.mp hp, L_tc]; exact Finset.mem_singleton_self _)
    (fun g u hg => by obtain ⟨f, -, rfl⟩ := owedTo_pos hg; rw [L_tc]; exact Finset.mem_singleton_self _)
    (fun p hp => by rw [Finset.mem_singleton.mp hp]; exact le_refl _)
    (fun g u hg => by
      obtain ⟨f, hf, rfl⟩ := owedTo_pos hg
      show semLv sm < semLv (.dma (recvSem f))
      rw [semLv_recv]; exact h f hf)

omit [FloatOps F] in
/-- The staging waits of the launch are below everything. -/
theorem mayWait_stage (c : Dev nD) (q : DmaSem sig) (hq : flowOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨f, rfl⟩ <;> exact Finset.mem_singleton_self _)
      (fun p hp => by rw [Finset.mem_singleton.mp hp]; show semLv (.dma q) ≤ 0; unfold semLv; rw [if_neg (sem_ne_bar _), hq])
      (fun g u hg => by
        rcases O₀_pos hg with ⟨e, rfl⟩ | ⟨f, rfl⟩
        · show 0 < semLv (.reg barS); rw [semLv_bar]; decide
        · show 0 < semLv (.dma (recvSem f)); rw [semLv_recv]; have := flowLv_ge f; omega)
  · rw [MayWait_zero]; iintro -; iempintro

/-! ## What a device's body starts and ends with -/

/-- The cells by index: the barrier, and each flow's two ends. -/
abbrev osem : Bool × Fin 6 → SemLoc sig := fun k => .dma (semOf k.1 k.2)
def csem : Option (Bool × Fin 6) → SemLoc sig
  | none => .reg barS
  | some k => osem k
abbrev kcell (ck : Dev nD × Option (Bool × Fin 6)) : GSem nD τ sig := ((ck.1 : Thread nD τ), csem ck.2)

abbrev Names : Type := Dev nD × Option (Bool × Fin 6) → ℕ

/-- Every cell's invariant, at the names `K`, and every cell at its round 0. -/
def records (K : Names) : sProp 𝕄 :=
  bigSep Finset.univ fun ck : Dev nD × Option (Bool × Fin 6) => iprop(cellInv ER (rd m ρ) (K ck) (kcell ck) ∗ reached ER (kcell ck) 0)

instance records_persistent (K : Names) : BI.Persistent (records m ρ K) := by unfold records; infer_instance

/-- Device `c`'s own positions: at round 0 of each of its cells; -/
def positions (c : Dev nD) : sProp 𝕄 :=
  iprop(atPos ER (barCell c) 0 ∅ 0 ∗ bigSep Finset.univ fun k : Bool × Fin 6 => atPos ER (flowCell c k.1 k.2) 0 ∅ 0)
/-- the duties it pays: a signal to each neighbour, each flow's landing and its own send credit. -/
def duties (c : Dev nD) : sProp 𝕄 :=
  iprop((dutyTok ER (barCell (prv c)) 0 true ∗ dutyTok ER (barCell (nxt c)) 0 false)
    ∗ (bigSep Finset.univ fun f : Fin 6 => dutyTok ER (recvCell (tgt f c) f) 0 false)
    ∗ bigSep Finset.univ fun f : Fin 6 => dutyTok ER (sendCell c f) 0 false)

def ghost (K : Names) (c : Dev nD) : sProp 𝕄 := iprop(records m ρ K ∗ positions c ∗ duties c)

/-- With that, the credit its waits spend and the level facts. -/
def start (c : Dev nD) : sProp 𝕄 :=
  iprop((∃ K, ghost m ρ K c)
    ∗ (cred (tallyAt (barCell c) () 2) ∗ bigSep Finset.univ fun f : Fin 6 => cred (tallyAt (recvCell c f) () N)) ∗ levAts L lv)

/-- The scratch buffers, at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f))

def Φ₀ (c : Dev nD) : sProp 𝕄 := iprop(start m ρ c ∗ scratch c)
/-- At the end: the scratch buffers, and every cell closed with its counter at zero. -/
def Φ₁ (c : Dev nD) : sProp 𝕄 :=
  iprop(scratch c ∗ semVal (barCell c) 0 ∗ bigSep Finset.univ fun k : Bool × Fin 6 => semVal (flowCell c k.1 k.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => wv m ρ c
    | ⟨2, _⟩ => out m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

/-! ## Picking a cell's record; splitting families over the flows -/

section Pick
variable (K : Names) (c : Dev nD)

theorem rec_at (ck : Dev nD × Option (Bool × Fin 6)) :
    records m ρ K ⊢ iprop(cellInv ER (rd m ρ) (K ck) (kcell ck) ∗ reached ER (kcell ck) 0) :=
  bigSep_elim (Finset.mem_univ ck)

theorem rec_bar (e : Dev nD) : records m ρ K ⊢ iprop(cellInv ER (rd m ρ) (K (e, none)) (barCell e) ∗ reached ER (barCell e) 0) :=
  rec_at m ρ K (e, none)
theorem rec_flow (e : Dev nD) (b : Bool) (f : Fin 6) :
    records m ρ K ⊢ iprop(cellInv ER (rd m ρ) (K (e, some (b, f))) (flowCell e b f) ∗ reached ER (flowCell e b f) 0) :=
  rec_at m ρ K (e, some (b, f))

end Pick

omit [FloatOps F] in
theorem bigSep_flows (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  rfl

omit [FloatOps F] in
theorem bigSep_ends (Φ : Bool × Fin 6 → sProp 𝕄) :
    bigSep Finset.univ Φ = iprop((bigSep Finset.univ fun f => Φ (false, f)) ∗ bigSep Finset.univ fun f => Φ (true, f)) := by
  rw [bigSep_univ_prod, bigSep_univ_eq_bigSepL [false, true] (by decide) (by decide)]
  rfl

/-! ## Cutting the two slot buffers -/

section Cut
variable (c : Dev nD)

omit [FloatOps F] in
theorem sset (f : Fin 6) : (sslot f).view.set = (slotRect f).set := View.set_slice_whole _ _
omit [FloatOps F] in
theorem rset (f : Fin 6) : (rslot f).view.set = (slotRect f).set := View.set_slice_whole _ _

theorem sset_disjoint (f f' : Fin 6) (h : f ≠ f') : Disjoint (sslot f).view.set (sslot f').view.set := by
  rw [sset, sset]; exact slot_disjoint h
theorem rset_disjoint (f f' : Fin 6) (h : f ≠ f') : Disjoint (rslot f).view.set (rslot f').view.set := by
  rw [rset, rset]; exact slot_disjoint h

/-- The slots' element sets, as families in the two buffers. -/
def inS (f : Fin 6) : Finset (Idx ((c : Thread nD τ).loc cc0_scratch3)) := (sslot f).view.set
def inR (f : Fin 6) : Finset (Idx ((c : Thread nD τ).loc cc0_scratch4)) := (rslot f).view.set

/-- What the slots leave of their buffer (nothing, but it is carried all the same). -/
def restS : sProp 𝕄 := iprop(∃ f, ((c : Thread nD τ).loc cc0_scratch3) ↦[Ring.restOf (inS c)]{fullShare} f)
def restR : sProp 𝕄 := iprop(∃ f, ((c : Thread nD τ).loc cc0_scratch4) ↦[Ring.restOf (inR c)]{fullShare} f)

omit [FloatOps F] in
theorem freeS_eq (f : Fin 6) : freeS (F := F) c f = iprop(∃ g, ((c : Thread nD τ).loc cc0_scratch3) ↦[inS c f]{fullShare} g) := rfl
omit [FloatOps F] in
theorem freeR_eq (f : Fin 6) : freeR (F := F) c f = iprop(∃ g, ((c : Thread nD τ).loc cc0_scratch4) ↦[inR c f]{fullShare} g) := rfl

omit [FloatOps F] in
theorem cutS : (iprop(∃ f, ((c : Thread nD τ).loc cc0_scratch3) ↦{fullShare} f) : sProp 𝕄) ⊢ iprop((bigSep Finset.univ fun f => freeS c f) ∗ restS c) := by
  simp only [freeS_eq]
  exact Ring.fam_split_ex (B := Fin 6) (inS c) sset_disjoint
omit [FloatOps F] in
theorem cutR : (iprop(∃ f, ((c : Thread nD τ).loc cc0_scratch4) ↦{fullShare} f) : sProp 𝕄) ⊢ iprop((bigSep Finset.univ fun f => freeR c f) ∗ restR c) := by
  simp only [freeR_eq]
  exact Ring.fam_split_ex (B := Fin 6) (inR c) rset_disjoint

include m in
omit [FloatOps F] in
theorem joinS : iprop((bigSep Finset.univ fun f => freeS (F := F) c f) ∗ restS c) ⊢ (iprop(∃ f, ((c : Thread nD τ).loc cc0_scratch3) ↦{fullShare} f) : sProp 𝕄) := by
  simp only [freeS_eq]
  exact Ring.fam_join (B := Fin 6) (inS c) sset_disjoint (m ((c : Thread nD τ).loc cc0_scratch3))
include m in
omit [FloatOps F] in
theorem joinR : iprop((bigSep Finset.univ fun f => freeR (F := F) c f) ∗ restR c) ⊢ (iprop(∃ f, ((c : Thread nD τ).loc cc0_scratch4) ↦{fullShare} f) : sProp 𝕄) := by
  simp only [freeR_eq]
  exact Ring.fam_join (B := Fin 6) (inR c) rset_disjoint (m ((c : Thread nD τ).loc cc0_scratch4))

/-- A slot with known contents is a slot with some. -/
theorem free_of_send (f : Fin 6) : sendPay (F := F) m ρ c f ⊢ freeS c f := by
  unfold sendPay freeS owns; iintro ⟨%g, -, H⟩; iexists g; iexact H
theorem free_of_recv (f : Fin 6) : recvPay (F := F) m ρ c f ⊢ freeR c f := by
  unfold recvPay freeR owns; iintro ⟨%g, -, H⟩; iexists g; iexact H

end Cut

end Cert.Mesh

end
-- ==== Proof.Steps.lean ====
/-
# One rule per kind of step

The body's transfers, waits, loads and stores at the slots, each stated once for an arbitrary flow: sending a slot, waiting at
either end of a flow (the cell closes with the wait, it has no later round), storing a send slot, reading a landed slot.
-/
module

public import proofs.«01_k».proof.Proof.Protocol

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Names) (c : Dev nD)

/-! ## Transfers -/

/-- Device `c` owes the landings of the flows in `l`, having waited for whatever it has waited for. -/
def owing (l : List (Fin 6)) : sProp 𝕄 := iprop(∃ W, owes (c : Thread nD τ) (owedTo c l) W)

/-- Sending flow `f`, addressed to `n`, the flow's target. -/
theorem wp_send_flow (f : Fin 6) (n : Dev nD) (hn : n = tgt f c)
    {hsc : (rflat f : Memref sig (Dev.tc n : Thread nD τ).2.kind .vmem S256x512 .bf16).view.ref.isScScratch = false}
    {hsrc : (sflat f).view.WordExact} {hdst : (rflat f).view.WordExact}
    {hsem : DmaTarget.Typed .vmem (.dma (recvSem f)) (.remote (Dev.tc n : Thread nD τ) (rflat f) (.dma (sendSem f)) hsc)}
    {α : Type} {Q : α → sProp 𝕄} {k : PUnit → Prog (TpuEff nD τ sig (Elt F) Λ₀ .tc) α} (l : List (Fin 6)) :
    iprop(records m ρ K ∗ sendPay m ρ c f ∗ freeR (tgt f c) f ∗ owing c (f :: l)
        ∗ dutyTok ER (sendCell c f) 0 false ∗ dutyTok ER (recvCell (tgt f c) f) 0 false)
      ⊢ iprop(((cred (tallyAt (sendCell c f) () N) ∗ owing c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sflat f) (.remote (Dev.tc n : Thread nD τ) (rflat f) (.dma (sendSem f)) hsc) (.dma (recvSem f)) hsrc hdst hsem) k) Q) := by
  subst hn
  unfold sendPay freeR owns owing
  iintro ⟨#HR, ⟨%fs, %hfs, Hs⟩, ⟨%fd, Hd⟩, ⟨%W, HO⟩, HtS, HtV⟩ Hk
  ihave HS := (rec_flow m ρ K c false f) $$ HR
  ihave HV := (rec_flow m ρ K (tgt f c) true f) $$ HR
  icases HS with ⟨#HIs, #HrS⟩
  icases HV with ⟨#HIv, #HrV⟩
  have hs : (sflat f).view.set = (sslot f).view.set := View.set_reshape _ _
  have hr : (rflat f).view.set = (rslot f).view.set := View.set_reshape _ _
  iapply (Rounds.wp_send_pointsTo 𝒱₀ ER (rd m ρ) (c : Thread nD τ) none (κ₁ := K (c, some (false, f))) (κ₂ := K (tgt f c, some (true, f)))
    (c' := (Dev.tc (tgt f c) : Thread nD τ)) (src := sflat f) (dst := rflat f)
    (r₁ := 0) (r₂ := 0) (d₁ := false) (d₂ := false) (fs := fs) (fd := fd) (q := fullShare)
    (by rw [duties_flow]; exact Finset.mem_singleton_self _) (by rw [duties_flow]; exact Finset.mem_singleton_self _)
    () () N rfl (amount_flow m ρ c false f false) (amount_flow m ρ (tgt f c) true f false) (owedTo c l) rfl (W := W)
    (by rw [payload_flow]; unfold flowPay sendPay owns; rw [hs]
        iintro H; iexists fs; isplitr; · (ipureintro; exact hfs)
        iexact H)
    (by rw [payload_flow]; unfold flowPay recvPay owns; rw [hr]
        iintro H; iexists _
        isplitr
        swap; · iexact H
        ipureintro
        rw [read_copied, hfs, landed, frm_tgt])) $$ [Hs Hd HO HtS HtV]
  · isplitr; · iexact HIs
    isplitr; · iexact HIv
    isplitl [Hs]; · rw [hs]; iexact Hs
    isplitl [Hd]; · rw [hr]; iexact Hd
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists W; iexact HO

/-- The two signals and the wait of the handshake: each neighbour is handed the receive slots its flows fill, and this device is
    handed those its own flows fill; the barrier cell closes at zero. -/
theorem wp_handshake (n₁ n₂ : Dev nD) (h₁ : n₁ = prv c) (h₂ : n₂ = nxt c)
    {α : Type} {Q : α → sProp 𝕄} {k : PUnit → Prog (TpuEff nD τ sig (Elt F) Λ₀ .tc) α} (W : Waits sig Unit) :
    iprop(records m ρ K ∗ levAts L lv ∗ owes (c : Thread nD τ) (O₀ c) W ∗ cred (tallyAt (barCell c) () 2) ∗ atPos ER (barCell c) 0 ∅ 0
        ∗ (dutyTok ER (barCell (prv c)) 0 true ∗ dutyTok ER (barCell (nxt c)) 0 false) ∗ bigSep Finset.univ fun f => freeR c f)
      ⊢ iprop(((owing c flows ∗ semVal (barCell c) 0 ∗ (freeR (prv c) 0 ∗ freeR (prv c) 3 ∗ freeR (prv c) 4) ∗ freeR (nxt c) 1 ∗ freeR (nxt c) 2 ∗ freeR (nxt c) 5)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (n₁, .tc) barS (1#32).toInt) fun _ => .op (.semSignal (n₂, .tc) barS (1#32).toInt) fun _ =>
              .op (.semWait barS (2#32).toInt) k) Q) := by
  subst h₁ h₂
  rw [bigSep_flows]
  iintro ⟨#HR, #Hlev, HO, HcB, HatB, ⟨HtP, HtN⟩, HR0, HR1, HR2, HR3, HR4, HR5⟩ Hk
  ihave HP := (rec_bar m ρ K (prv c)) $$ HR
  ihave HN := (rec_bar m ρ K (nxt c)) $$ HR
  ihave HB := (rec_bar m ρ K c) $$ HR
  icases HP with ⟨#HIP, #HrP⟩
  icases HN with ⟨#HIN, #HrN⟩
  icases HB with ⟨#HIB, -⟩
  iapply (Rounds.wp_signal 𝒱₀ ER (rd m ρ) (c : Thread nD τ) none (dst := (prv c : Thread nD τ)) (κ := K (prv c, none))
      (d := true) (by rw [duties_bar]; exact Finset.mem_univ _) ((amount_bar m ρ (prv c) true).trans (by decide)) () (O₁ c) rfl)
    $$ [HO HtP HR1 HR2 HR5]
  · isplitr; · iexact HIP
    isplitl [HO]; · iexact HO
    isplitl [HtP]; · iexact HtP
    isplitl [HR1 HR2 HR5]
    · rw [payload_bar]; unfold barPay; rw [if_pos rfl, nxt_prv]
      isplitl [HR1]; · iexact HR1
      isplitl [HR2]; · iexact HR2
      iexact HR5
    · iexact HrP
  iintro HO
  unfold O₁
  iapply (Rounds.wp_signal 𝒱₀ ER (rd m ρ) (c : Thread nD τ) none (dst := (nxt c : Thread nD τ)) (κ := K (nxt c, none))
      (d := false) (by rw [duties_bar]; exact Finset.mem_univ _) ((amount_bar m ρ (nxt c) false).trans (by decide)) () (owedTo c flows) rfl)
    $$ [HO HtN HR0 HR3 HR4]
  · isplitr; · iexact HIN
    isplitl [HO]; · iexact HO
    isplitl [HtN]; · iexact HtN
    isplitl [HR0 HR3 HR4]
    · rw [payload_bar]; unfold barPay; rw [if_neg Bool.false_ne_true, prv_nxt]
      isplitl [HR0]; · iexact HR0
      isplitl [HR3]; · iexact HR3
      iexact HR4
    · iexact HrN
  iintro HO
  iapply (Rounds.wp_wait_rest_token 𝒱₀ ER (rd m ρ) (c : Thread nD τ) none (κ := K (c, none))
      (wpE_semWait_eq 𝒱₀ (c : Thread nD τ) none Set.univ) (Set.mem_univ _) () (O := owedTo c flows) (W := W) (R := 0) (m := 0) (T := ∅)
      (by rw [expect_bar]; decide)) $$ [HcB HO HatB]
  · isplitr; · iexact HIB
    isplitl [HcB]; · iexact HcB
    isplitl [HO]; · iexact HO
    isplitr
    · iapply (mayWait_owed c (.reg barS) flows fun f _ => by rw [semLv_bar]; have := flowLv_ge f; omega); iexact Hlev
    iexact HatB
  iintro ⟨HO, HatB, -, Hpay⟩
  ihave Hp := (Entails.of_eq (rest_bar m ρ c)) $$ Hpay
  imod (Rounds.cell_close ER (rd m ρ) (Set.mem_univ (K (c, none))) (fun h => h) (R := 0 + 1) (duties_later m ρ (barCell c))) $$ [HatB] with HzB
  · isplitr; · iexact HIB
    iexact HatB
  iapply Hk
  unfold owing
  isplitl [HO]; · iexists _; iexact HO
  isplitl [HzB]; · iexact HzB
  iexact Hp

/-- Waiting at one end of flow `f`, below what is still owed: the payload, and the cell closed at zero. -/
theorem wp_wait_flow (b : Bool) (f : Fin 6) {src dst : Memref sig .tc .vmem S256x512 .bf16} (hN : dst.view.dmaCredit = N)
    {hsrc : src.view.WordExact} {hdst : dst.view.WordExact}
    {α : Type} {Q : α → sProp 𝕄} {k : PUnit → Prog (TpuEff nD τ sig (Elt F) Λ₀ .tc) α} (l : List (Fin 6))
    (hl : ∀ f' ∈ l, semLv (.dma (semOf b f)) < flowLv f') :
    iprop(records m ρ K ∗ levAts L lv ∗ cred (tallyAt (flowCell c b f) () N) ∗ owing c l ∗ atPos ER (flowCell c b f) 0 ∅ 0)
      ⊢ iprop(((owing c l ∗ semVal (flowCell c b f) 0 ∗ flowPay m ρ c b f)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semOf b f) src dst hsrc hdst) k) Q) := by
  unfold owing
  iintro ⟨#HR, #Hlev, Hc, ⟨%W, HO⟩, Hat⟩ Hk
  ihave HS := (rec_flow m ρ K c b f) $$ HR
  icases HS with ⟨#HI, -⟩
  iapply (Rounds.wp_wait_rest_token 𝒱₀ ER (rd m ρ) (c : Thread nD τ) none (κ := K (c, some (b, f)))
      (wpE_waitDma2_eq 𝒱₀ (c : Thread nD τ) none Set.univ) (Set.mem_univ _) () (O := owedTo c l) (W := W) (R := 0) (m := 0) (T := ∅)
      (by rw [Nat.zero_add, expect_flow, hN])) $$ [Hc HO Hat]
  · isplitr; · iexact HI
    isplitl [Hc]; · rw [hN]; iexact Hc
    isplitl [HO]; · iexact HO
    isplitr; · iapply (mayWait_owed c _ l hl); iexact Hlev
    iexact Hat
  iintro ⟨HO, Hat, -, Hpay⟩
  ihave Hp := (Entails.of_eq (rest_flow m ρ c b f)) $$ Hpay
  imod (Rounds.cell_close ER (rd m ρ) (Set.mem_univ (K (c, some (b, f)))) (fun h => h) (R := 0 + 1) (duties_later m ρ (flowCell c b f))) $$ [Hat] with Hz
  · isplitr; · iexact HI
    iexact Hat
  iapply Hk
  isplitl [HO]; · iexists _; iexact HO
  isplitl [Hz]; · iexact Hz
  iexact Hp

/-- What the two ends' waits hand over. -/
theorem pay_send (f : Fin 6) : flowPay m ρ c false f ⊢ sendPay m ρ c f := Entails.of_eq rfl
theorem pay_recv (f : Fin 6) : flowPay m ρ c true f ⊢ recvPay m ρ c f := Entails.of_eq rfl

/-! ## Loads and stores at the slots -/

/-- Reading a landed slot. -/
theorem wp_load_landed (f : Fin 6) {hl : rM.view.LoadsAt (slotRect f).toLoadRect} {α : Type} {Q : α → sProp 𝕄}
    {k : Vec F S1x256x512 .bf16 → Prog (TpuEff nD τ sig (Elt F) Λ₀ .tc) α} :
    recvPay m ρ c f
      ⊢ iprop((recvPay m ρ c f -∗ wp frame (wpE (defs₀ (F := F)) 𝒱₀ (c : Thread nD τ) none) Set.univ (k (landed m ρ f c)) Q)
          -∗ wp frame (wpE (defs₀ (F := F)) 𝒱₀ (c : Thread nD τ) none) Set.univ (.op (.load rM (slotRect f).toLoadRect hl) k) Q) := by
  unfold recvPay owns
  iintro ⟨%g, %hg, H⟩ Hk
  iapply (wp_load 𝒱₀ (c : Thread nD τ) none Set.univ (m := rM) (r := (slotRect f).toLoadRect) (S := (rslot f).view.set) (q := fullShare) (f := g)
    (by show rM.view.setOn (slotRect f).set ⊆ _; rw [View.set_slice]; exact Finset.Subset.refl _)) $$ H
  iintro H
  rw [show rM.view.readAt (Elt F) (slotRect f).toLoadRect g = landed m ρ f c from hg]
  iapply Hk
  iexists g; isplitr; · (ipureintro; exact hg)
  iexact H

/-- Reading a send slot before it is filled: any value. -/
theorem wp_load_unfilled (f : Fin 6) {hl : sM.view.LoadsAt (slotRect f).toLoadRect} {α : Type} {Q : α → sProp 𝕄}
    {k : Vec F S1x256x512 .bf16 → Prog (TpuEff nD τ sig (Elt F) Λ₀ .tc) α} :
    freeS c f
      ⊢ iprop((∀ v, freeS c f -∗ wp frame (wpE (defs₀ (F := F)) 𝒱₀ (c : Thread nD τ) none) Set.univ (k v) Q)
          -∗ wp frame (wpE (defs₀ (F := F)) 𝒱₀ (c : Thread nD τ) none) Set.univ (.op (.load sM (slotRect f).toLoadRect hl) k) Q) := by
  unfold freeS
  iintro ⟨%g, H⟩ Hk
  iapply (wp_load 𝒱₀ (c : Thread nD τ) none Set.univ (m := sM) (r := (slotRect f).toLoadRect) (S := (sslot f).view.set) (q := fullShare) (f := g)
    (by show sM.view.setOn (slotRect f).set ⊆ _; rw [View.set_slice]; exact Finset.Subset.refl _)) $$ H
  iintro H
  iapply Hk
  iexists g; iexact H

/-- Filling a send slot with what the flow carries. -/
theorem wp_fill (f : Fin 6) {w : Vec F S1x256x512 .bf16} (hw : w = sent m ρ f c) {hx : (sM.access (slotRect f)).Stores Finset.univ}
    {hm : (Finset.univ : Finset (slotRect f).shape.Idx) = Finset.univ ∨ ∀ a, (slotRect f).stride a = 1} {α : Type} {Q : α → sProp 𝕄}
    {k : PUnit → Prog (TpuEff nD τ sig (Elt F) Λ₀ .tc) α} :
    freeS c f
      ⊢ iprop((sendPay m ρ c f -∗ wp frame (wpE (defs₀ (F := F)) 𝒱₀ (c : Thread nD τ) none) Set.univ (k ⟨⟩) Q)
          -∗ wp frame (wpE (defs₀ (F := F)) 𝒱₀ (c : Thread nD τ) none) Set.univ (.op (.store sM (slotRect f) w Finset.univ hx hm) k) Q) := by
  subst hw
  unfold freeS sendPay owns
  iintro ⟨%g, H⟩ Hk
  iapply (wp_store 𝒱₀ (c : Thread nD τ) none Set.univ (m := sM) (r := slotRect f) (Mk := Finset.univ) (S := (sslot f).view.set) (f := g)
    (Finset.Subset.refl _)) $$ H
  iintro H
  iapply Hk
  iexists _
  isplitr
  swap; · iexact H
  ipureintro
  exact View.read_write_univ (v := (sslot f).view) g (sent m ρ f c)

end Cert.Mesh

end
-- ==== Proof.Body.lean ====
/-
# The body

The kernel's body on one device, at a symbolic device number: from what the launch hands it to the scratch buffers given back,
every cell closed and the result written.
-/
module

public import proofs.«01_k».proof.Proof.Steps

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Names)

/-! ## Loads and stores of whole buffers -/

/-- All of a half-width buffer, all of a full-width one. -/
abbrev allH : Rect S256x512 := Rect.unit (s := S256x512) ![0, 0] S256x512.size inb_S256x512_S256x512_0_0
abbrev allW : Rect S256x1024 := Rect.unit (s := S256x1024) ![0, 0] S256x1024.size inb_S256x1024_S256x1024_0_0

omit [FloatOps F] in
theorem zero2 : (![0, 0] : Fin 2 → ℕ) = fun _ => 0 := funext fun a => by fin_cases a <;> rfl

omit [FloatOps F] in
theorem read_w (f : (cc0_stg1_0 : Ref sig .tc).ty.Contents (Elt F)) :
    wM.view.readAt (Elt F) allW.toLoadRect f = f :=
  Memref.readAt_unit_zero (Elt F) cc0_stg1_0 zero2 _ f
omit [FloatOps F] in
theorem read_a (f : (cc0_scratch0 : Ref sig .tc).ty.Contents (Elt F)) :
    aM.view.readAt (Elt F) allH.toLoadRect f = f :=
  Memref.readAt_unit_zero (Elt F) cc0_scratch0 zero2 _ f
omit [FloatOps F] in
theorem read_b (f : (cc0_scratch1 : Ref sig .tc).ty.Contents (Elt F)) :
    bM.view.readAt (Elt F) allH.toLoadRect f = f :=
  Memref.readAt_unit_zero (Elt F) cc0_scratch1 zero2 _ f
omit [FloatOps F] in
theorem write_a (f w : (cc0_scratch0 : Ref sig .tc).ty.Contents (Elt F)) :
    (aM.access allH : View sig .tc _ _ _).write (Elt F) f w Finset.univ = w :=
  Memref.write_access_unit_zero_univ (Elt F) cc0_scratch0 zero2 _ f w
omit [FloatOps F] in
theorem write_b (f w : (cc0_scratch1 : Ref sig .tc).ty.Contents (Elt F)) :
    (bM.access allH : View sig .tc _ _ _).write (Elt F) f w Finset.univ = w :=
  Memref.write_access_unit_zero_univ (Elt F) cc0_scratch1 zero2 _ f w
omit [FloatOps F] in
theorem write_p (f w : (cc0_scratch2 : Ref sig .tc).ty.Contents (Elt F)) :
    (pM.access allW : View sig .tc _ _ _).write (Elt F) f w Finset.univ = w :=
  Memref.write_access_unit_zero_univ (Elt F) cc0_scratch2 zero2 _ f w

/-! ## The contract -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop((ghost m ρ K c ∗ (cred (tallyAt (barCell c) () 2) ∗ bigSep Finset.univ fun f : Fin 6 => cred (tallyAt (recvCell c f) () N)) ∗ levAts L lv ∗ scratch c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
def bodyPost (c : Dev nD) : sProp 𝕄 :=
  iprop(Φ₁ c ∗ (dats m ρ 0 c).owesAt () t0_0.succ ∗ stg c cc0_stg0_0 (xv m ρ c) ∗ stg c cc0_stg1_0 (wv m ρ c) ∗ stg c cc0_stg2_0 (out m ρ c))

set_option maxHeartbeats 4000000 in
/-- The body from `bodyPre` to `bodyPost`, one rule per step in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) wM (Memref.isWhole_whole _) oM (Memref.isWhole_whole _) aM (Memref.isWhole_whole _)
            bM (Memref.isWhole_whole _) pM (Memref.isWhole_whole _) sM (Memref.isWhole_whole _) rM (Memref.isWhole_whole _) cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, Prog.bind_assoc, wp_deviceId]
  unfold bodyPre ghost positions duties scratch
  iintro ⟨⟨⟨⟨#HR, ⟨HatB, Hat⟩, HtB, HtV, HtS⟩, ⟨HcB, HcV⟩, #Hlev, ⟨%fa, Ha⟩, ⟨%fb, Hb⟩, ⟨%fp, Hp⟩, HbufS, HbufR⟩,
    Ho, ⟨%d0, %g0, %hg0, Hx⟩, ⟨%d1, %g1, %hg1, Hw⟩, ⟨%d2, %g2, -, Hout⟩⟩, Hk⟩
  have hx : g0 = xv m ρ c := by rw [hg0]; unfold Dat.before; rw [if_pos (fetch0_0 t0_0)]; rfl
  have hw : g1 = wv m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  ihave HbufS := (cutS c) $$ HbufS
  ihave HbufR := (cutR c) $$ HbufR
  icases HbufS with ⟨HbufS, HrestS⟩
  icases HbufR with ⟨HbufR, HrestR⟩
  ihave HbufS := (Entails.of_eq (bigSep_flows _)) $$ HbufS
  icases HbufS with ⟨Hs0, Hs1, Hs2, Hs3, Hs4, Hs5⟩
  ihave Hat := (Entails.of_eq (bigSep_ends _)) $$ Hat
  icases Hat with ⟨HatS, HatV⟩
  ihave HatS := (Entails.of_eq (bigSep_flows _)) $$ HatS
  ihave HatV := (Entails.of_eq (bigSep_flows _)) $$ HatV
  ihave HtS := (Entails.of_eq (bigSep_flows _)) $$ HtS
  ihave HtV := (Entails.of_eq (bigSep_flows _)) $$ HtV
  ihave HcV := (Entails.of_eq (bigSep_flows _)) $$ HcV
  icases HatS with ⟨HaS0, HaS1, HaS2, HaS3, HaS4, HaS5⟩
  icases HatV with ⟨HaV0, HaV1, HaV2, HaV3, HaV4, HaV5⟩
  icases HtS with ⟨HtS0, HtS1, HtS2, HtS3, HtS4, HtS5⟩
  icases HtV with ⟨HtV0, HtV1, HtV2, HtV3, HtV4, HtV5⟩
  icases HcV with ⟨HcV0, HcV1, HcV2, HcV3, HcV4, HcV5⟩
  -- the handshake
  iapply (wp_handshake m ρ K c _ _ (dev1_eq c) (dev2_eq c) W) $$ [HO HcB HatB HtB HbufR]
  · isplitr; · iexact HR
    isplitr; · iexact Hlev
    isplitl [HO]; · iexact HO
    isplitl [HcB]; · iexact HcB
    isplitl [HatB]; · iexact HatB
    isplitl [HtB]; · iexact HtB
    iexact HbufR
  iintro ⟨HO, HzB, ⟨Hn0, Hn3, Hn4⟩, Hn1, Hn2, Hn5⟩
  -- flow 0: multiply, fill, send
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_unfilled c 0) $$ Hs0; iintro %_ Hs0
  iapply (wp_fill m ρ c 0 rfl) $$ Hs0; iintro Hs0
  iapply (wp_send_flow m ρ K c 0 _ (dev3_eq c) [1, 2, 3, 4, 5]) $$ [Hs0 Hn0 HO HtS0 HtV0]
  · isplitr; · iexact HR
    isplitl [Hs0]; · iexact Hs0
    isplitl [Hn0]; · iexact Hn0
    isplitl [HO]; · iexact HO
    isplitl [HtS0] <;> iassumption
  iintro ⟨HcS0, HO⟩
  -- flow 1
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_unfilled c 1) $$ Hs1; iintro %_ Hs1
  iapply (wp_fill m ρ c 1 rfl) $$ Hs1; iintro Hs1
  iapply (wp_send_flow m ρ K c 1 _ (dev4_eq c) [2, 3, 4, 5]) $$ [Hs1 Hn1 HO HtS1 HtV1]
  · isplitr; · iexact HR
    isplitl [Hs1]; · iexact Hs1
    isplitl [Hn1]; · iexact Hn1
    isplitl [HO]; · iexact HO
    isplitl [HtS1] <;> iassumption
  iintro ⟨HcS1, HO⟩
  -- flow 2
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_unfilled c 2) $$ Hs2; iintro %_ Hs2
  iapply (wp_fill m ρ c 2 rfl) $$ Hs2; iintro Hs2
  iapply (wp_send_flow m ρ K c 2 _ (dev5_eq c) [3, 4, 5]) $$ [Hs2 Hn2 HO HtS2 HtV2]
  · isplitr; · iexact HR
    isplitl [Hs2]; · iexact Hs2
    isplitl [Hn2]; · iexact Hn2
    isplitl [HO]; · iexact HO
    isplitl [HtS2] <;> iassumption
  iintro ⟨HcS2, HO⟩
  -- flow 3
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_unfilled c 3) $$ Hs3; iintro %_ Hs3
  iapply (wp_fill m ρ c 3 rfl) $$ Hs3; iintro Hs3
  iapply (wp_send_flow m ρ K c 3 _ (dev6_eq c) [4, 5]) $$ [Hs3 Hn3 HO HtS3 HtV3]
  · isplitr; · iexact HR
    isplitl [Hs3]; · iexact Hs3
    isplitl [Hn3]; · iexact Hn3
    isplitl [HO]; · iexact HO
    isplitl [HtS3] <;> iassumption
  iintro ⟨HcS3, HO⟩
  -- the two products kept
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := aM) (Finset.subset_univ _)) $$ Ha; iintro Ha
  iapply (wp_store 𝒱₀ (c : Thread nD τ) none Set.univ (m := aM) (r := allH) (Mk := Finset.univ) (Finset.subset_univ _)) $$ Ha; iintro Ha
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := bM) (Finset.subset_univ _)) $$ Hb; iintro Hb
  iapply (wp_store 𝒱₀ (c : Thread nD τ) none Set.univ (m := bM) (r := allH) (Mk := Finset.univ) (Finset.subset_univ _)) $$ Hb; iintro Hb
  rw [write_a, write_b]
  -- what flows 0 and 1 bring, added and sent on
  iapply (wp_wait_flow m ρ K c true 0 (credit_r 0) [4, 5] (by decide)) $$ [HcV0 HO HaV0]
  · isplitr; · iexact HR
    isplitr; · iexact Hlev
    isplitl [HcV0]; · iexact HcV0
    isplitl [HO] <;> iassumption
  iintro ⟨HO, HzV0, Hr0⟩
  ihave Hr0 := (pay_recv m ρ c 0) $$ Hr0
  iapply (wp_load 𝒱₀ (c : Thread nD τ) none Set.univ (m := aM) (Finset.subset_univ _)) $$ Ha; iintro Ha
  iapply (wp_load_landed m ρ c 0) $$ Hr0; iintro Hr0
  iapply (wp_load_unfilled c 4) $$ Hs4; iintro %_ Hs4
  rw [read_a]
  iapply (wp_fill m ρ c 4 rfl) $$ Hs4; iintro Hs4
  iapply (wp_send_flow m ρ K c 4 _ (dev7_eq c) [5]) $$ [Hs4 Hn4 HO HtS4 HtV4]
  · isplitr; · iexact HR
    isplitl [Hs4]; · iexact Hs4
    isplitl [Hn4]; · iexact Hn4
    isplitl [HO]; · iexact HO
    isplitl [HtS4] <;> iassumption
  iintro ⟨HcS4, HO⟩
  iapply (wp_wait_flow m ρ K c true 1 (credit_r 1) [5] (by decide)) $$ [HcV1 HO HaV1]
  · isplitr; · iexact HR
    isplitr; · iexact Hlev
    isplitl [HcV1]; · iexact HcV1
    isplitl [HO] <;> iassumption
  iintro ⟨HO, HzV1, Hr1⟩
  ihave Hr1 := (pay_recv m ρ c 1) $$ Hr1
  iapply (wp_load 𝒱₀ (c : Thread nD τ) none Set.univ (m := bM) (Finset.subset_univ _)) $$ Hb; iintro Hb
  iapply (wp_load_landed m ρ c 1) $$ Hr1; iintro Hr1
  iapply (wp_load_unfilled c 5) $$ Hs5; iintro %_ Hs5
  rw [read_b]
  iapply (wp_fill m ρ c 5 rfl) $$ Hs5; iintro Hs5
  iapply (wp_send_flow m ρ K c 5 _ (dev8_eq c) []) $$ [Hs5 Hn5 HO HtS5 HtV5]
  · isplitr; · iexact HR
    isplitl [Hs5]; · iexact Hs5
    isplitl [Hn5]; · iexact Hn5
    isplitl [HO]; · iexact HO
    isplitl [HtS5] <;> iassumption
  iintro ⟨HcS5, HO⟩
  -- the device's own product
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := pM) (Finset.subset_univ _)) $$ Hp; iintro Hp
  iapply (wp_store 𝒱₀ (c : Thread nD τ) none Set.univ (m := pM) (r := allW) (Mk := Finset.univ) (Finset.subset_univ _)) $$ Hp; iintro Hp
  rw [read_w, write_p]
  -- the two halves of the result
  iapply (wp_wait_flow m ρ K c true 2 (credit_r 2) [] (by decide)) $$ [HcV2 HO HaV2]
  · isplitr; · iexact HR
    isplitr; · iexact Hlev
    isplitl [HcV2]; · iexact HcV2
    isplitl [HO] <;> iassumption
  iintro ⟨HO, HzV2, Hr2⟩
  ihave Hr2 := (pay_recv m ρ c 2) $$ Hr2
  iapply (wp_wait_flow m ρ K c true 4 (credit_r 4) [] (by decide)) $$ [HcV4 HO HaV4]
  · isplitr; · iexact HR
    isplitr; · iexact Hlev
    isplitl [HcV4]; · iexact HcV4
    isplitl [HO] <;> iassumption
  iintro ⟨HO, HzV4, Hr4⟩
  ihave Hr4 := (pay_recv m ρ c 4) $$ Hr4
  iapply (wp_load 𝒱₀ (c : Thread nD τ) none Set.univ (m := pM) (Finset.subset_univ _)) $$ Hp; iintro Hp
  iapply (wp_load_landed m ρ c 2) $$ Hr2; iintro Hr2
  iapply (wp_load_landed m ρ c 4) $$ Hr4; iintro Hr4
  iapply (wp_load 𝒱₀ (c : Thread nD τ) none Set.univ (m := oM) (Finset.subset_univ _)) $$ Hout; iintro Hout
  iapply (wp_store 𝒱₀ (c : Thread nD τ) none Set.univ (m := oM) (r := colsA) (Mk := Finset.univ) (Finset.subset_univ _)) $$ Hout; iintro Hout
  iapply (wp_wait_flow m ρ K c true 3 (credit_r 3) [] (by decide)) $$ [HcV3 HO HaV3]
  · isplitr; · iexact HR
    isplitr; · iexact Hlev
    isplitl [HcV3]; · iexact HcV3
    isplitl [HO] <;> iassumption
  iintro ⟨HO, HzV3, Hr3⟩
  ihave Hr3 := (pay_recv m ρ c 3) $$ Hr3
  iapply (wp_wait_flow m ρ K c true 5 (credit_r 5) [] (by decide)) $$ [HcV5 HO HaV5]
  · isplitr; · iexact HR
    isplitr; · iexact Hlev
    isplitl [HcV5]; · iexact HcV5
    isplitl [HO] <;> iassumption
  iintro ⟨HO, HzV5, Hr5⟩
  ihave Hr5 := (pay_recv m ρ c 5) $$ Hr5
  iapply (wp_load 𝒱₀ (c : Thread nD τ) none Set.univ (m := pM) (Finset.subset_univ _)) $$ Hp; iintro Hp
  iapply (wp_load_landed m ρ c 3) $$ Hr3; iintro Hr3
  iapply (wp_load_landed m ρ c 5) $$ Hr5; iintro Hr5
  iapply (wp_load 𝒱₀ (c : Thread nD τ) none Set.univ (m := oM) (Finset.subset_univ _)) $$ Hout; iintro Hout
  iapply (wp_store 𝒱₀ (c : Thread nD τ) none Set.univ (m := oM) (r := colsB) (Mk := Finset.univ) (Finset.subset_univ _)) $$ Hout; iintro Hout
  -- every send's credit
  iapply (wp_wait_flow m ρ K c false 0 (credit_s 0) [] (by decide)) $$ [HcS0 HO HaS0]
  · isplitr; · iexact HR
    isplitr; · iexact Hlev
    isplitl [HcS0]; · iexact HcS0
    isplitl [HO] <;> iassumption
  iintro ⟨HO, HzS0, Hs0⟩
  ihave Hs0 := (pay_send m ρ c 0) $$ Hs0
  iapply (wp_wait_flow m ρ K c false 1 (credit_s 1) [] (by decide)) $$ [HcS1 HO HaS1]
  · isplitr; · iexact HR
    isplitr; · iexact Hlev
    isplitl [HcS1]; · iexact HcS1
    isplitl [HO] <;> iassumption
  iintro ⟨HO, HzS1, Hs1⟩
  ihave Hs1 := (pay_send m ρ c 1) $$ Hs1
  iapply (wp_wait_flow m ρ K c false 2 (credit_s 2) [] (by decide)) $$ [HcS2 HO HaS2]
  · isplitr; · iexact HR
    isplitr; · iexact Hlev
    isplitl [HcS2]; · iexact HcS2
    isplitl [HO] <;> iassumption
  iintro ⟨HO, HzS2, Hs2⟩
  ihave Hs2 := (pay_send m ρ c 2) $$ Hs2
  iapply (wp_wait_flow m ρ K c false 3 (credit_s 3) [] (by decide)) $$ [HcS3 HO HaS3]
  · isplitr; · iexact HR
    isplitr; · iexact Hlev
    isplitl [HcS3]; · iexact HcS3
    isplitl [HO] <;> iassumption
  iintro ⟨HO, HzS3, Hs3⟩
  ihave Hs3 := (pay_send m ρ c 3) $$ Hs3
  iapply (wp_wait_flow m ρ K c false 4 (credit_s 4) [] (by decide)) $$ [HcS4 HO HaS4]
  · isplitr; · iexact HR
    isplitr; · iexact Hlev
    isplitl [HcS4]; · iexact HcS4
    isplitl [HO] <;> iassumption
  iintro ⟨HO, HzS4, Hs4⟩
  ihave Hs4 := (pay_send m ρ c 4) $$ Hs4
  iapply (wp_wait_flow m ρ K c false 5 (credit_s 5) [] (by decide)) $$ [HcS5 HO HaS5]
  · isplitr; · iexact HR
    isplitr; · iexact Hlev
    isplitl [HcS5]; · iexact HcS5
    isplitl [HO] <;> iassumption
  iintro ⟨HO, HzS5, Hs5⟩
  ihave Hs5 := (pay_send m ρ c 5) $$ Hs5
  rw [wp_ret]
  imodintro
  iapply Hk
  unfold bodyPost Φ₁ scratch Dat.owesAt Pipeline.owesWithin owing
  rw [show (dats m ρ 0 c).owed t0_0.succ = 0 from rfl]
  icases HO with ⟨%W', HO⟩
  isplitl [Ha Hb Hp Hs0 Hs1 Hs2 Hs3 Hs4 Hs5 HrestS Hr0 Hr1 Hr2 Hr3 Hr4 Hr5 HrestR HzB HzS0 HzS1 HzS2 HzS3 HzS4 HzS5 HzV0 HzV1 HzV2 HzV3 HzV4 HzV5]
  · isplitl [Ha Hb Hp Hs0 Hs1 Hs2 Hs3 Hs4 Hs5 HrestS Hr0 Hr1 Hr2 Hr3 Hr4 Hr5 HrestR]
    · isplitl [Ha]; · iexists _; iexact Ha
      isplitl [Hb]; · iexists _; iexact Hb
      isplitl [Hp]; · iexists _; iexact Hp
      isplitl [Hs0 Hs1 Hs2 Hs3 Hs4 Hs5 HrestS]
      · iapply (joinS m c)
        isplitr [HrestS]
        · rw [bigSep_flows]
          isplitl [Hs0]; · iapply (free_of_send m ρ c 0); iexact Hs0
          isplitl [Hs1]; · iapply (free_of_send m ρ c 1); iexact Hs1
          isplitl [Hs2]; · iapply (free_of_send m ρ c 2); iexact Hs2
          isplitl [Hs3]; · iapply (free_of_send m ρ c 3); iexact Hs3
          isplitl [Hs4]; · iapply (free_of_send m ρ c 4); iexact Hs4
          iapply (free_of_send m ρ c 5); iexact Hs5
        iexact HrestS
      iapply (joinR m c)
      isplitr [HrestR]
      · rw [bigSep_flows]
        isplitl [Hr0]; · iapply (free_of_recv m ρ c 0); iexact Hr0
        isplitl [Hr1]; · iapply (free_of_recv m ρ c 1); iexact Hr1
        isplitl [Hr2]; · iapply (free_of_recv m ρ c 2); iexact Hr2
        isplitl [Hr3]; · iapply (free_of_recv m ρ c 3); iexact Hr3
        isplitl [Hr4]; · iapply (free_of_recv m ρ c 4); iexact Hr4
        iapply (free_of_recv m ρ c 5); iexact Hr5
      iexact HrestR
    isplitl [HzB]; · iexact HzB
    rw [bigSep_ends, bigSep_flows, bigSep_flows]
    isplitl [HzS0 HzS1 HzS2 HzS3 HzS4 HzS5]
    · isplitl [HzS0]; · iexact HzS0
      isplitl [HzS1]; · iexact HzS1
      isplitl [HzS2]; · iexact HzS2
      isplitl [HzS3]; · iexact HzS3
      isplitl [HzS4]; · iexact HzS4
      iexact HzS5
    isplitl [HzV0]; · iexact HzV0
    isplitl [HzV1]; · iexact HzV1
    isplitl [HzV2]; · iexact HzV2
    isplitl [HzV3]; · iexact HzV3
    isplitl [HzV4]; · iexact HzV4
    iexact HzV5
  isplitl [HO]
  · iexists W'
    isplitr; · (ipureintro; exact fun _ _ => Or.inl trivial)
    iexact HO
  isplitl [Hx]; · iexists _; isplitr; · (ipureintro; rfl)
                  iexact Hx
  isplitl [Hw]; · iexists _; isplitr; · (ipureintro; rfl)
                  iexact Hw
  iexists _
  isplitr
  swap; · iexact Hout
  ipureintro
  exact write_halves _ _ _ _

end Cert.Mesh

end
-- ==== Proof.Launch.lean ====
/-
# The launch

The body as the pipeline's obligation; the launch's resources dealt out to the devices — every cell's invariant allocated for all
devices at once, so that each device can send to its neighbours' cells; and the run of @main on the four devices: from any memory
it ends, with each device's result at the computed contents, its arguments as they were, and every semaphore counter zero.
-/
module

public import proofs.«01_k».proof.Proof.Body
public import Idealize.ShloMosaic.Adequacy
public import Idealize.ShloMosaic.Init
public import Idealize.ShloMosaic.Lib.Pipeline.CollectiveSegs

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline's obligation -/

omit [FloatOps F] in
/-- Holding a whole buffer at contents `X`, as a points-to. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

omit [FloatOps F] in
theorem bigSep_windows (Φ : Fin cfg0.W → sProp 𝕄) : bigSep Finset.univ Φ = iprop(Φ (0 : Fin 3) ∗ Φ (1 : Fin 3) ∗ Φ (2 : Fin 3)) := bigSep_W0 Φ

set_option maxRecDepth 4000 in
theorem body_obligation (c : Dev nD) : BodyObligation (dats (F := F) m ρ 0 c) (defs₀ (F := F)) 𝒱₀ () Set.univ := fun t => by
  rw [fin_N0 t, bigSep_windows, bigSep_windows]
  simp only [owns_buffer]
  show iprop(Φ₀ m ρ c ∗ (dats m ρ 0 c).owesAt () t0_0.castSucc
      ∗ (∃ d, stg c cc0_stg0_0 ((dats m ρ 0 c).before (0 : Fin 3) t0_0 d))
      ∗ (∃ d, stg c cc0_stg1_0 ((dats m ρ 0 c).before (1 : Fin 3) t0_0 d))
      ∗ (∃ d, stg c cc0_stg2_0 ((dats m ρ 0 c).before (2 : Fin 3) t0_0 d)))
    ⊢ wp frame (wpE (defs₀ (F := F)) 𝒱₀ c none) Set.univ
      (cc0_body xM (Memref.isWhole_whole _) wM (Memref.isWhole_whole _) oM (Memref.isWhole_whole _) aM (Memref.isWhole_whole _)
        bM (Memref.isWhole_whole _) pM (Memref.isWhole_whole _) sM (Memref.isWhole_whole _) rM (Memref.isWhole_whole _) cc0_scratch5 cc0_scratch6)
      (fun _ => bodyPost m ρ c)
  unfold Φ₀ start
  iintro ⟨⟨⟨⟨%K, Hg⟩, Hc, Hlev⟩, Hscr⟩, Hrest⟩
  iapply (sound_body m ρ K c fun _ => bodyPost m ρ c)
  isplitl
  · unfold bodyPre
    isplitl [Hg Hc Hlev Hscr]
    · isplitl [Hg]; · iexact Hg
      isplitl [Hc]; · iexact Hc
      isplitl [Hlev]; · iexact Hlev
      iexact Hscr
    iexact Hrest
  · iintro H; iexact H

/-! ## The cells and the tokens -/

omit [FloatOps F] in
/-- A family over an optional index: the absent one's part, and the rest. -/
theorem bigSep_option {I : Type} [Fintype I] [DecidableEq I] (Φ : Option I → sProp 𝕄) :
    bigSep Finset.univ Φ = iprop(Φ none ∗ bigSep Finset.univ fun i => Φ (some i)) := by
  rw [bigSep_univ_at Φ none, show (Finset.univ : Finset (Option I)).erase none = Finset.univ.map Function.Embedding.some from by
    ext i; cases i <;> simp, bigSep_map]
  rfl

theorem ownSemFacts : Pipeline.OwnSemFacts cfg0.spec osem := by decide

theorem share_eq (c : Dev nD) (w : Fin cfg0.W) : (dats m ρ 0 c).share w = fullShare := by unfold Dat.share; split <;> rfl

theorem flowOf_csem (k : Option (Bool × Fin 6)) : flowOf (csem k) = k := by
  rcases k with _ | ⟨b, f⟩
  · exact flowOf_bar
  · exact flowOf_semOf b f

theorem kcell_injective : Function.Injective (kcell : Dev nD × Option (Bool × Fin 6) → GSem nD τ sig) := fun p q h =>
  Prod.ext (congrArg (fun g : GSem nD τ sig => g.1.1) h)
    ((flowOf_csem p.2).symm.trans ((congrArg (fun g : GSem nD τ sig => flowOf g.2) h).trans (flowOf_csem q.2)))

def meshCells : Finset (GSem nD τ sig) := Finset.univ.map ⟨kcell, kcell_injective⟩

/-- One token per duty of each cell: index `none` is the barrier's second duty. -/
abbrev tokOf (p : Dev nD × Option (Option (Bool × Fin 6))) : GSem nD τ sig × ℕ × Bool :=
  (kcell (p.1, p.2.getD none), 0, p.2.isNone)

theorem tokOf_injective : Function.Injective tokOf := by
  rintro ⟨c, k⟩ ⟨c', k'⟩ h
  have hc := congrArg Prod.fst (kcell_injective (congrArg Prod.fst h))
  have hk : k.getD none = k'.getD none := congrArg Prod.snd (kcell_injective (congrArg Prod.fst h))
  have hd : k.isNone = k'.isNone := congrArg (fun x : GSem nD τ sig × ℕ × Bool => x.2.2) h
  refine Prod.ext hc ?_
  cases k <;> cases k' <;> simp_all

def meshToks : Finset (GSem nD τ sig × ℕ × Bool) := Finset.univ.map ⟨tokOf, tokOf_injective⟩

def u₀ : UU :=
  (initOf (Pipeline.cells cfgs cellOf_inj) (Pipeline.launchToks cfgs cellOf_inj), initOf meshCells meshToks)

/-- The tokens of device `c`'s own cells. -/
def toks (c : Dev nD) : sProp 𝕄 :=
  iprop(dutyTok ER (barCell c) 0 true ∗ dutyTok ER (barCell c) 0 false ∗ bigSep Finset.univ fun k : Bool × Fin 6 => dutyTok ER (flowCell c k.1 k.2) 0 false)

/-- What the launch element deals device `c`: its cells' round states, positions and tokens. -/
def G (c : Dev nD) : sProp 𝕄 :=
  iprop((bigSep Finset.univ fun k => roundState ER (rd m ρ) (kcell (c, k)) 0)
    ∗ (bigSep Finset.univ fun k => iprop(atPos ER (kcell (c, k)) 0 ∅ 0 ∗ reached ER (kcell (c, k)) 0)) ∗ toks c)

/-- What the common allocation makes of it. -/
def G' (c : Dev nD) : sProp 𝕄 := iprop(∃ K, ghost m ρ K c)

omit [FloatOps F] in
theorem over_cells (Φ : GSem nD τ sig → sProp 𝕄) : bigSep meshCells Φ = bigSep Finset.univ fun c : Dev nD => bigSep Finset.univ fun k => Φ (kcell (c, k)) := by
  unfold meshCells; rw [bigSep_map, bigSep_univ_prod]; rfl

omit [FloatOps F] in
theorem over_toks : bigSep meshToks (fun x => (dutyTok ER x.1 x.2.1 x.2.2 : sProp 𝕄)) = bigSep Finset.univ fun c : Dev nD => toks c := by
  unfold meshToks; rw [bigSep_map, bigSep_univ_prod]
  exact bigSep_congr fun c _ => by unfold toks; rw [bigSep_option, bigSep_option]; rfl

theorem fund_mesh : BI.own (ER (initOf meshCells meshToks)) ⊢ (|==> bigSep Finset.univ (G m ρ) : sProp 𝕄) := by
  iintro HX
  imod (Rounds.fund ER (rd m ρ) meshCells meshToks) $$ HX with ⟨Hst, Hr, Hat, Htok⟩
  imodintro
  ihave Hst := (Entails.of_eq (over_cells fun g => roundState ER (rd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  isplitl [Hst]; · iexact Hst
  isplitl [Hat Hr]
  · isplitl [Hat] <;> iassumption
  iexact Htok

/-! ## The allocation -/

omit [FloatOps F] in
/-- The barrier semaphore is the launch's one unscoped semaphore. -/
theorem unscoped_bar (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_zero (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [unscoped_bar, bigSep_option]
  unfold Pipeline.ownSems0
  iintro ⟨HF, HB⟩
  isplitl [HB]; · iexact HB
  iexact HF

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hrest⟩
  ihave Hv := (sems_zero (F := F) c) $$ [Hos Hus]
  · isplitl [Hos] <;> iassumption
  imod (show iprop((bigSep Finset.univ fun k => semVal (kcell (c, k)) 0) ∗ bigSep Finset.univ fun k => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv] <;> iassumption

omit [FloatOps F] in
/-- Each token goes to the device that pays the duty: a barrier's two to the neighbours, a landing's to its sender. -/
theorem toks_dealt : (bigSep Finset.univ fun c : Dev nD => (toks c : sProp 𝕄)) ⊢ bigSep Finset.univ fun c : Dev nD => duties c := by
  have hL : (bigSep Finset.univ fun c : Dev nD => bigSep Finset.univ fun f : Fin 6 => (dutyTok ER (recvCell c f) 0 false : sProp 𝕄))
      = bigSep Finset.univ fun c : Dev nD => bigSep Finset.univ fun f : Fin 6 => dutyTok ER (recvCell (tgt f c) f) 0 false := by
    rw [← bigSep_univ_prod fun p : Dev nD × Fin 6 => (dutyTok ER (recvCell p.1 p.2) 0 false : sProp 𝕄), bigSep_univ_equiv landing, bigSep_univ_prod]
    rfl
  unfold toks duties
  simp only [bigSep_ends, bigSep_sep']
  rw [bigSep_univ_equiv ring.symm (fun c : Dev nD => (dutyTok ER (barCell c) 0 true : sProp 𝕄)),
    bigSep_univ_equiv ring (fun c : Dev nD => (dutyTok ER (barCell c) 0 false : sProp 𝕄)), hL]
  iintro ⟨H1, H2, H3, H4⟩
  isplitl [H1 H2]
  · isplitl [H1]; · iexact H1
    iexact H2
  isplitl [H4]; · iexact H4
  iexact H3

omit [FloatOps F] in
/-- A fact that may be duplicated goes to every member of a family. -/
theorem bigSep_each {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  refine (sep_mono_left (BI.bigSep_of_persistent S R)).trans ?_
  rw [← bigSep_sep']
  exact bigSep_mono fun i _ => h i

theorem ghost_intro (K : Names) (c : Dev nD) : iprop(records m ρ K ∗ (positions c ∗ duties c)) ⊢ G' m ρ c := by
  unfold G' ghost
  iintro ⟨#HR, HP, HD⟩
  iexists K
  isplitr; · iexact HR
  isplitl [HP] <;> iassumption

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  have hP : ∀ c : Dev nD, (bigSep Finset.univ fun k => (atPos ER (kcell (c, k)) 0 ∅ 0 : sProp 𝕄)) = positions c := fun c => by
    unfold positions; rw [bigSep_option]; rfl
  simp only [bigSep_sep', hP]
  rw [← bigSep_univ_prod (fun ck : Dev nD × Option (Bool × Fin 6) => iprop(∃ κ : ℕ, cellInv ER (rd m ρ) κ (kcell ck))),
    ← bigSep_univ_prod (fun ck : Dev nD × Option (Bool × Fin 6) => (reached ER (kcell ck) 0 : sProp 𝕄))]
  iintro ⟨HI, ⟨Hat, #HR⟩, Htok⟩
  ihave HK := (BI.bigSep_exists_pi Finset.univ (fun (ck : Dev nD × Option (Bool × Fin 6)) (κ : ℕ) => (cellInv ER (rd m ρ) κ (kcell ck) : sProp 𝕄))) $$ HI
  icases HK with ⟨%K, #HI⟩
  ihave Htk := (toks_dealt (F := F)) $$ Htok
  iapply (bigSep_each (R := records m ρ K) fun c => ghost_intro m ρ K c)
  isplitr
  · unfold records; rw [bigSep_sep']
    isplitr; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem cell_dev {a b : Dev nD} {s s' : SemLoc sig} (h : ((a : Thread nD τ), s) = ((b : Thread nD τ), s')) : a = b :=
  congrArg (fun g : GSem nD τ sig => g.1.1) h

theorem recv_ne_bar (d c : Dev nD) (f : Fin 6) : recvCell d f ≠ barCell c := fun h => sem_ne_bar _ (congrArg Prod.snd h)

theorem owedTo_bar (d c : Dev nD) : ∀ l : List (Fin 6), owedTo d l (barCell c) () = 0
  | [] => rfl
  | f :: l => by
    unfold owedTo
    rw [Pi.add_apply, Finsupp.add_apply, owedTo_bar d c l, tallyAt_ne_cell (recv_ne_bar _ _ _).symm]; rfl

/-- A landing is owed by the one device it comes from. -/
theorem landing_owed (d c : Dev nD) (f f' : Fin 6) :
    tallyAt (recvCell (tgt f' d) f') () N (recvCell c f) () = if f' = f then (if d = frm f c then N else 0) else 0 := by
  rw [tallyAt_apply]
  by_cases hf : f' = f
  · subst hf
    rw [if_pos rfl]
    by_cases hd : d = frm f' c
    · subst hd; rw [tgt_frm, if_pos ⟨rfl, rfl⟩, if_pos rfl]
    · rw [if_neg hd, if_neg]
      rintro ⟨h, -⟩
      exact hd (by rw [cell_dev h, frm_tgt])
  · rw [if_neg hf, if_neg]
    rintro ⟨h, -⟩
    exact hf (congrArg Prod.snd (semOf_inj (SemLoc.dma.inj (congrArg Prod.snd h)))).symm

theorem owedTo_recv (d c : Dev nD) (f : Fin 6) : ∀ l : List (Fin 6),
    owedTo d l (recvCell c f) () = l.count f * (if d = frm f c then N else 0)
  | [] => (Nat.zero_mul _).symm
  | f' :: l => by
    unfold owedTo
    rw [Pi.add_apply, Finsupp.add_apply, owedTo_recv d c f l, landing_owed, List.count_cons, Nat.add_mul]
    by_cases h : f' = f
    · subst h; simp
    · simp [h]

theorem bar_owed (d c e : Dev nD) : tallyAt (barCell e) () 1 (barCell c) () = if c = e then 1 else 0 := by
  rw [tallyAt_apply]
  by_cases h : c = e
  · subst h; rw [if_pos ⟨rfl, rfl⟩, if_pos rfl]
  · rw [if_neg (fun h' => h (cell_dev h'.1)), if_neg h]

theorem launch_bar (c : Dev nD) :
    tallyOn (barCell c) (launchCredit (Pipeline.owing O₀) 0 (barCell c)) = (tallyAt (barCell c) () 2 : CellTallies nD τ sig Unit) := by
  have e : ∀ d : Dev nD, O₀ d (barCell c) () = (if d = prv c then 1 else 0) + (if d = nxt c then 1 else 0) := fun d => by
    unfold O₀ O₁
    rw [Pi.add_apply, Finsupp.add_apply, Pi.add_apply, Finsupp.add_apply, owedTo_bar, bar_owed d, bar_owed d, Nat.zero_add]
    revert d c; decide
  unfold tallyAt; refine congrArg _ (Finsupp.ext fun u => ?_); cases u
  rw [Pipeline.launchCredit_owing, Finsupp.single_eq_same, Finset.sum_congr rfl fun d _ => e d, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (f : Fin 6) :
    tallyOn (recvCell c f) (launchCredit (Pipeline.owing O₀) 0 (recvCell c f)) = (tallyAt (recvCell c f) () N : CellTallies nD τ sig Unit) := by
  have e : ∀ d : Dev nD, O₀ d (recvCell c f) () = if d = frm f c then N else 0 := fun d => by
    unfold O₀ O₁
    rw [Pi.add_apply, Finsupp.add_apply, Pi.add_apply, Finsupp.add_apply, owedTo_recv, tallyAt_ne_cell (recv_ne_bar _ _ _), tallyAt_ne_cell (recv_ne_bar _ _ _),
      Finsupp.zero_apply, Nat.add_zero, Nat.add_zero, show flows.count f = 1 from by revert f; decide, Nat.one_mul]
  unfold tallyAt; refine congrArg _ (Finsupp.ext fun u => ?_); cases u
  rw [Pipeline.launchCredit_owing, Finsupp.single_eq_same, Finset.sum_congr rfl fun d _ => e d, Finset.sum_ite_eq' Finset.univ (frm f c) fun _ => N,
    if_pos (Finset.mem_univ _)]

omit [FloatOps F] in
theorem creds (c : Dev nD) :
    (Pipeline.launchCred O₀ c : sProp 𝕄) ⊢ iprop(cred (tallyAt (barCell c) () 2) ∗ bigSep Finset.univ fun f : Fin 6 => cred (tallyAt (recvCell c f) () N)) := by
  unfold Pipeline.launchCred
  rw [bigSep_univ_at _ (SemLoc.reg barS), launch_bar]
  refine sep_mono_right ?_
  have inj : Function.Injective fun f : Fin 6 => (SemLoc.dma (recvSem f) : SemLoc sig) := fun f f' h =>
    congrArg Prod.snd (semOf_inj (SemLoc.dma.inj h))
  refine (bigSep_subset (t := Finset.univ.map ⟨_, inj⟩) fun s hs => ?_).trans ?_
  · obtain ⟨f, -, rfl⟩ := Finset.mem_map.mp hs
    exact Finset.mem_erase.mpr ⟨sem_ne_bar _, Finset.mem_univ _⟩
  · rw [bigSep_map]
    exact bigSep_mono fun f _ => show (_ : sProp 𝕄) ⊢ _ from Entails.of_eq (congrArg cred (launch_recv c f))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscoped_bar]
  unfold Φ₁ scratch Pipeline.ownSems0
  iintro ⟨Hr, HzB, HzF⟩
  isplitl [HzB]; · iexact HzB
  isplitl [HzF] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The windows' arrays at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values and from any memory with zero counters: every weakly fair execution of @main ends, with
    every device's arrays at their final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold what they held; -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.Mesh

end
-- ==== Proof.Frames.lean ====
/-
# The frames

Each program ends, leaves its arguments alone and has every semaphore counter at zero. The kernel's two texts are the same program, so
both take their frame from the one run. The reference's program has no semaphores at all.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Mesh

open Cert.KernelIdeal Cert.KernelIdeal.Gen
open Idealize.ShloMosaic Idealize.ShloMosaic.TcCoe Idealize.SL.Sem

/-- A final state of the run has both arguments as at launch. -/
theorem args_kept {F : FTy → Type} [FloatOps F] {m : (ℓ : Loc nD τ sig) → Buf (Elt F) ℓ} {ρ : Dev nD → PrngReg}
    {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1) :=
  ⟨(h c (0 : Fin 3)).trans (finalA_x m ρ c), (h c (1 : Fin 3)).trans (finalA_w m ρ c)⟩

theorem frame_kernelIdeal : Cert.quiescent_KernelIdeal := fun m ρ _ =>
  (θ_run Cert.KernelIdeal.defs _ _).mono (fun _ h => ⟨args_kept h.1, h.2⟩) (run_main (F := Ideal) m ρ)

set_option maxRecDepth 16384 in
/-- The two texts of the kernel have the same body table, and the same @main. -/
theorem bodies_eq : Cert.Kernel.defs₀ (F := Bits) = Cert.KernelIdeal.defs₀ (F := Bits) := by
  unfold Cert.Kernel.defs₀ Cert.KernelIdeal.defs₀
  refine congrArg (Defs.onTc (Λ := Λ₀)) (funext fun l => funext fun x => ?_)
  rcases l with ⟨_ | n, h⟩
  · rfl
  · exact absurd h (Nat.not_lt.2 (Nat.le_add_left _ _))

theorem defs_eq : Cert.Kernel.defs (F := Bits) = Cert.KernelIdeal.defs (F := Bits) := by
  unfold Cert.Kernel.defs Cert.KernelIdeal.defs
  exact congrArg (Pipeline.defs (pcfgs (F := Bits))) bodies_eq

theorem frame_kernel : Cert.quiescent_Kernel := fun m ρ _ => by
  rw [defs_eq]
  exact (θ_run Cert.KernelIdeal.defs _ _).mono (fun r h => ⟨args_kept h.1, h.2⟩) (run_main (F := Bits) m ρ)

/-- The reference's program has no semaphore. -/
theorem no_sem (g : GSem Cert.ReferenceIdeal.nD Cert.ReferenceIdeal.τ Cert.ReferenceIdeal.sig) : False := by
  obtain ⟨_, s⟩ := g
  rcases s with q | q <;> exact q.elim0

theorem frame_reference : Cert.quiescent_ReferenceIdeal := fun m ρ _ =>
  (θ_run Cert.ReferenceIdeal.defs _ _).mono (fun _ h => ⟨fun c => (h c).2, funext fun g => (no_sem g).elim⟩)
    (Cert.ReferenceIdeal.Value.run m ρ)

end Cert.Mesh

end
-- ==== Proof.Blocks.lean ====
/-
# The kernel's blocks and payloads at an index

Over the extended reals: where each block of a shard that the kernel reads sits in the shard, and what each stored vector is at an index,
as sums and products of the entries it was computed from.
-/
module

public import proofs.«01_k».proof.Proof.Slots
public import Idealize.ShloMosaic.Lib.Pointwise
public import Idealize.ShloMosaic.Lib.Pipeline.ValueKit

@[expose] public section

set_option maxRecDepth 16384

noncomputable section

namespace Cert.Mesh

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Row `r` of row block `e`; the two column halves. -/
def row (e : Dev nD) (r : Fin 256) : Fin 1024 := ⟨256 * e.val + r.val, by have : e.val < 4 := e.isLt; have := r.isLt; omega⟩
def colA (l : Fin 512) : Fin 1024 := ⟨l.val, by omega⟩
def colB (l : Fin 512) : Fin 1024 := ⟨512 + l.val, by omega⟩

/-- A device's shards as arrays of extended reals. -/
abbrev X (c : Dev nD) : FVec Ideal S1024x256 .f32 := m ((c : Thread nD τ).loc main_arg0)
abbrev W (c : Dev nD) : FVec Ideal S256x1024 .f32 := m ((c : Thread nD τ).loc main_arg1)

theorem idx0 : win0_0.index (0 : Fin 1) = ![0, 0] := by decide +kernel
theorem idx1 : win0_1.index (0 : Fin 1) = ![0, 0] := by decide +kernel

theorem xv_eq (c : Dev nD) : xv m ρ c = X m c := by
  unfold xv X
  blk_ext! [s₀, idx0]

theorem wv_eq (c : Dev nD) : wv m ρ c = W m c := by
  unfold wv W
  blk_ext! [s₀, idx1]

/-- A 256 × 256 block of the shard of `x` whose first row is that of row block `e`. -/
theorem x_block (c e : Dev nD) (off : Fin 2 → ℕ) (h) (hoff : off = ![256 * e.val, 0]) (r k : Fin 256) :
    xM.view.readAt (Elt Ideal) (Rect.unit (s := S1024x256) off S256x256.size h).toLoadRect (xv m ρ c) (ix2 r k) = X m c (ix2 (row e r) k) := by
  subst hoff
  rw [xv_eq, View.readAt_apply]
  show X m c ((Rect.unit (s := S1024x256) _ S256x256.size h).idx (ix2 r k)) = _
  congr 1
  funext a
  apply Fin.ext
  fin_cases a
  · show 256 * e.val + 1 * r.val = 256 * e.val + r.val
    omega
  · show 0 + 1 * k.val = k.val
    omega

theorem xP2_at (c : Dev nD) (r k : Fin 256) : xP2 m ρ c (ix2 r k) = X m c (ix2 (row (nxt (nxt c)) r) k) :=
  x_block m ρ c _ _ _ (by rw [show (2#32) = BitVec.ofNat 32 (1 + (1 : Fin 2).val) from rfl, k0_off1_eq]; revert c; decide) r k
theorem xP1_at (c : Dev nD) (r k : Fin 256) : xP1 m ρ c (ix2 r k) = X m c (ix2 (row (nxt c) r) k) :=
  x_block m ρ c _ _ _ (by rw [show (1#32) = BitVec.ofNat 32 (1 + (0 : Fin 2).val) from rfl, k0_off1_eq]; revert c; decide) r k
theorem xM1_at (c : Dev nD) (r k : Fin 256) : xM1 m ρ c (ix2 r k) = X m c (ix2 (row (prv c) r) k) :=
  x_block m ρ c _ _ _ (by rw [k0_off2_eq]; revert c; decide) r k
theorem xOwn_at (c : Dev nD) (r k : Fin 256) : xOwn m ρ c (ix2 r k) = X m c (ix2 (row c r) k) :=
  x_block m ρ c _ _ _ (by rw [k0_off3_eq]; revert c; decide) r k

theorem colsA_idx (r : Fin 256) (l : Fin 512) : colsA.idx (ix2 r l) = ix2 r (colA l) := by
  funext a
  apply Fin.ext
  fin_cases a
  · show 0 + 1 * r.val = r.val
    omega
  · show 0 + 1 * l.val = l.val
    omega
theorem colsB_idx (r : Fin 256) (l : Fin 512) : colsB.idx (ix2 r l) = ix2 r (colB l) := by
  funext a
  apply Fin.ext
  fin_cases a
  · show 0 + 1 * r.val = r.val
    omega
  · show 512 + 1 * l.val = 512 + l.val
    omega

theorem wA_at (c : Dev nD) (k : Fin 256) (l : Fin 512) : wA m ρ c (ix2 k l) = W m c (ix2 k (colA l)) := by
  unfold wA
  rw [wv_eq, View.readAt_apply]
  exact congrArg (W m c) (colsA_idx k l)
theorem wB_at (c : Dev nD) (k : Fin 256) (l : Fin 512) : wB m ρ c (ix2 k l) = W m c (ix2 k (colB l)) := by
  unfold wB
  rw [wv_eq, View.readAt_apply]
  exact congrArg (W m c) (colsB_idx k l)
theorem ownA_at (c : Dev nD) (r : Fin 256) (l : Fin 512) : ownA m ρ c (ix2 r l) = own m ρ c (ix2 r (colA l)) := by
  unfold ownA
  rw [View.readAt_apply]
  exact congrArg (own m ρ c) (colsA_idx r l)
theorem ownB_at (c : Dev nD) (r : Fin 256) (l : Fin 512) : ownB m ρ c (ix2 r l) = own m ρ c (ix2 r (colB l)) := by
  unfold ownB
  rw [View.readAt_apply]
  exact congrArg (own m ρ c) (colsB_idx r l)

/-! ## The payloads -/

theorem pay1_at (x : Vec Ideal S256x256 .f32) (w : Vec Ideal S256x512 .f32) (r : Fin 256) (l : Fin 512) :
    k0_pay1 x w (ix3 0 r l) = ∑ k : Fin 256, x (ix2 r k) * w (ix2 k l) := by
  pointwise [k0_pay1]
theorem pay2_at (x : Vec Ideal S256x256 .f32) (w : Vec Ideal S256x512 .f32) (r : Fin 256) (l : Fin 512) :
    k0_pay2 x w (ix3 0 r l) = ∑ k : Fin 256, x (ix2 r k) * w (ix2 k l) := by
  pointwise [k0_pay2]
theorem pay3_at (x : Vec Ideal S256x256 .f32) (w : Vec Ideal S256x512 .f32) (r : Fin 256) (l : Fin 512) :
    k0_pay3 x w (ix3 0 r l) = ∑ k : Fin 256, x (ix2 r k) * w (ix2 k l) := by
  pointwise [k0_pay3]
theorem pay4_at (x : Vec Ideal S256x256 .f32) (w : Vec Ideal S256x512 .f32) (r : Fin 256) (l : Fin 512) :
    k0_pay4 x w (ix3 0 r l) = ∑ k : Fin 256, x (ix2 r k) * w (ix2 k l) := by
  pointwise [k0_pay4]
theorem pay56_at (x : Vec Ideal S256x256 .f32) (w : Vec Ideal S256x512 .f32) (r : Fin 256) (l : Fin 512) :
    k0_pay6 (k0_pay5 x w) (ix2 r l) = ∑ k : Fin 256, x (ix2 r k) * w (ix2 k l) := by
  pointwise [k0_pay5, k0_pay6]
theorem pay7_at (x : Vec Ideal S256x256 .f32) (w : Vec Ideal S256x512 .f32) (r : Fin 256) (l : Fin 512) :
    k0_pay7 x w (ix2 r l) = ∑ k : Fin 256, x (ix2 r k) * w (ix2 k l) := by
  pointwise [k0_pay7]
theorem pay89_at (a : Vec Ideal S256x512 .f32) (b : Vec Ideal S1x256x512 .bf16) (r : Fin 256) (l : Fin 512) :
    k0_pay9 (k0_pay8 a b) (ix3 0 r l) = a (ix2 r l) + b (ix3 0 r l) := by
  pointwise [k0_pay8, k0_pay9]
theorem pay1011_at (a : Vec Ideal S256x512 .f32) (b : Vec Ideal S1x256x512 .bf16) (r : Fin 256) (l : Fin 512) :
    k0_pay11 (k0_pay10 a b) (ix3 0 r l) = a (ix2 r l) + b (ix3 0 r l) := by
  pointwise [k0_pay10, k0_pay11]
theorem pay13_at (a : Vec Ideal S256x512 .f32) (b d : Vec Ideal S1x256x512 .bf16) (r : Fin 256) (l : Fin 512) :
    k0_pay13 a b d (ix2 r l) = a (ix2 r l) + b (ix3 0 r l) + d (ix3 0 r l) := by
  pointwise [k0_pay13]
theorem pay14_at (a : Vec Ideal S256x512 .f32) (b d : Vec Ideal S1x256x512 .bf16) (r : Fin 256) (l : Fin 512) :
    k0_pay14 a b d (ix2 r l) = a (ix2 r l) + b (ix3 0 r l) + d (ix3 0 r l) := by
  pointwise [k0_pay14]
theorem pay12_at (x : Vec Ideal S256x256 .f32) (w : Vec Ideal S256x1024 .f32) (r : Fin 256) (l : Fin 1024) :
    k0_pay12 x w (ix2 r l) = ∑ k : Fin 256, x (ix2 r k) * w (ix2 k l) := by
  pointwise [k0_pay12]

end Cert.Mesh

end
-- ==== Proof.Value.lean ====
/-
# The value

Over the extended reals device `e` ends with rows `256 e … 256 e + 255` of `x w`: each entry of its result is the sum over the four
devices of the products of their shards, gathered in a different order in the two column halves, and the 1024 terms of the entry of `x w`
are these four sums of 256 terms.
-/
module

public import proofs.«01_k».proof.Proof.Blocks
public import proofs.«01_k».proof.Proof.Frames

@[expose] public section

set_option maxRecDepth 16384

noncomputable section

namespace Cert.Mesh

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Device `c`'s contribution to row `r` of row block `e`, column `l`. -/
def part (c e : Dev nD) (r : Fin 256) (l : Fin 1024) : EReal := ∑ k : Fin 256, X m c (ix2 (row e r) k) * W m c (ix2 k l)

theorem part_of (c e : Dev nD) (r : Fin 256) (l : Fin 512) (l' : Fin 1024) (x : Vec Ideal S256x256 .f32) (w : Vec Ideal S256x512 .f32)
    (hx : ∀ k, x (ix2 r k) = X m c (ix2 (row e r) k)) (hw : ∀ k, w (ix2 k l) = W m c (ix2 k l')) :
    (∑ k : Fin 256, (x (ix2 r k) : EReal) * w (ix2 k l)) = part m c e r l' :=
  Finset.sum_congr rfl fun k _ => by rw [hx k, hw k]

/-! ## What the flows carry -/

section Flows
variable (c : Dev nD) (r : Fin 256) (l : Fin 512)

theorem sent0_at : sent0 m ρ c (ix3 0 r l) = part m c (nxt (nxt c)) r (colA l) :=
  (pay1_at _ _ r l).trans (part_of m c _ r l _ _ _ (xP2_at m ρ c r) (fun k => wA_at m ρ c k l))
theorem sent1_at : sent1 m ρ c (ix3 0 r l) = part m c (nxt (nxt c)) r (colB l) :=
  (pay2_at _ _ r l).trans (part_of m c _ r l _ _ _ (xP2_at m ρ c r) (fun k => wB_at m ρ c k l))
theorem sent2_at : sent m ρ 2 c (ix3 0 r l) = part m c (nxt c) r (colA l) :=
  (pay3_at _ _ r l).trans (part_of m c _ r l _ _ _ (xP1_at m ρ c r) (fun k => wA_at m ρ c k l))
theorem sent3_at : sent m ρ 3 c (ix3 0 r l) = part m c (prv c) r (colB l) :=
  (pay4_at _ _ r l).trans (part_of m c _ r l _ _ _ (xM1_at m ρ c r) (fun k => wB_at m ρ c k l))
theorem keepA_at : keepA m ρ c (ix2 r l) = part m c (prv c) r (colA l) :=
  (pay56_at _ _ r l).trans (part_of m c _ r l _ _ _ (xM1_at m ρ c r) (fun k => wA_at m ρ c k l))
theorem keepB_at : keepB m ρ c (ix2 r l) = part m c (nxt c) r (colB l) :=
  (pay7_at _ _ r l).trans (part_of m c _ r l _ _ _ (xP1_at m ρ c r) (fun k => wB_at m ρ c k l))
theorem sent4_at : sent m ρ 4 c (ix3 0 r l) = part m c (prv c) r (colA l) + part m (nxt c) (nxt (nxt (nxt c))) r (colA l) :=
  (pay89_at _ _ r l).trans (congrArg₂ (fun a b : EReal => a + b) (keepA_at m ρ c r l) (sent0_at m ρ (nxt c) r l))
theorem sent5_at : sent m ρ 5 c (ix3 0 r l) = part m c (nxt c) r (colB l) + part m (prv c) (nxt (nxt (prv c))) r (colB l) :=
  (pay1011_at _ _ r l).trans (congrArg₂ (fun a b : EReal => a + b) (keepB_at m ρ c r l) (sent1_at m ρ (prv c) r l))

end Flows

theorem own_at (c : Dev nD) (r : Fin 256) (l : Fin 1024) : own m ρ c (ix2 r l) = part m c c r l :=
  (pay12_at _ _ r l).trans (Finset.sum_congr rfl fun k _ => by rw [xOwn_at, wv_eq])

/-- The four contributions in half A's order, and in half B's. -/
theorem four_A (f : Dev nD → EReal) (e : Dev nD) : f e + f (prv e) + (f (nxt e) + f (nxt (nxt e))) = ∑ d, f d := by
  rw [show (∑ d, f d) = f (0 : Fin 4) + f (1 : Fin 4) + f (2 : Fin 4) + f (3 : Fin 4) from Fin.sum_univ_four f]
  have h : ∀ e : Fin 4, f e + f (prv e) + (f (nxt e) + f (nxt (nxt e))) = f (0 : Fin 4) + f (1 : Fin 4) + f (2 : Fin 4) + f (3 : Fin 4) := by
    intro e
    fin_cases e
    · show f (0 : Fin 4) + f (3 : Fin 4) + (f (1 : Fin 4) + f (2 : Fin 4)) = _
      ac_rfl
    · show f (1 : Fin 4) + f (0 : Fin 4) + (f (2 : Fin 4) + f (3 : Fin 4)) = _
      ac_rfl
    · show f (2 : Fin 4) + f (1 : Fin 4) + (f (3 : Fin 4) + f (0 : Fin 4)) = _
      ac_rfl
    · show f (3 : Fin 4) + f (2 : Fin 4) + (f (0 : Fin 4) + f (1 : Fin 4)) = _
      ac_rfl
  exact h e

theorem prv_prv (e : Dev nD) : prv (prv e) = nxt (nxt e) := by revert e; decide
theorem nxt_four (e : Dev nD) : nxt (nxt (nxt (nxt e))) = e := by revert e; decide

theorem four_B (f : Dev nD → EReal) (e : Dev nD) : f e + f (nxt e) + (f (prv e) + f (prv (prv e))) = ∑ d, f d := by
  rw [prv_prv, ← four_A f e]
  ac_rfl

theorem outA_at (e : Dev nD) (r : Fin 256) (l : Fin 512) : outA m ρ e (ix2 r l) = ∑ d, part m d e r (colA l) := by
  have h2 : landed m ρ 2 e (ix3 0 r l) = part m (prv e) e r (colA l) := (sent2_at m ρ (prv e) r l).trans (by rw [nxt_prv])
  have h4 : landed m ρ 4 e (ix3 0 r l) = part m (nxt e) e r (colA l) + part m (nxt (nxt e)) e r (colA l) :=
    (sent4_at m ρ (nxt e) r l).trans (by rw [prv_nxt, nxt_four])
  refine (pay13_at _ _ _ r l).trans ?_
  rw [ownA_at, own_at, h2, h4]
  exact four_A (fun d => part m d e r (colA l)) e

theorem outB_at (e : Dev nD) (r : Fin 256) (l : Fin 512) : outB m ρ e (ix2 r l) = ∑ d, part m d e r (colB l) := by
  have h3 : landed m ρ 3 e (ix3 0 r l) = part m (nxt e) e r (colB l) := (sent3_at m ρ (nxt e) r l).trans (by rw [prv_nxt])
  have h5 : landed m ρ 5 e (ix3 0 r l) = part m (prv e) e r (colB l) + part m (prv (prv e)) e r (colB l) :=
    (sent5_at m ρ (prv e) r l).trans (by rw [nxt_prv, nxt_prv, nxt_prv])
  refine (pay14_at _ _ _ r l).trans ?_
  rw [ownB_at, own_at, h3, h5]
  exact four_B (fun d => part m d e r (colB l)) e

theorem out_at (e : Dev nD) (r : Fin 256) (l : Fin 1024) : out m ρ e (ix2 r l) = ∑ d, part m d e r l := by
  unfold out
  rcases Nat.lt_or_ge l.val 512 with h | h
  · obtain ⟨l', rfl⟩ : ∃ l' : Fin 512, l = colA l' := ⟨⟨l.val, h⟩, rfl⟩
    rw [View.write_of_not_mem]
    · have hi : ix2 r (colA l') = (oM.access colsA).emb (ix2 r l') := (colsA_idx r l').symm
      rw [hi, View.write_emb_of_mem _ _ (Finset.mem_univ _)]
      exact outA_at m ρ e r l'
    · show ix2 r (colA l') ∉ (oM.access colsB).set
      rw [show (oM.access colsB).set = colsB.set from View.set_slice_whole _ _, Rect.mem_set_unit]
      intro hm
      have h512 : 512 ≤ l'.val := (hm 1).1
      exact absurd l'.isLt (Nat.not_lt.2 h512)
  · obtain ⟨l', rfl⟩ : ∃ l' : Fin 512, l = colB l' := ⟨⟨l.val - 512, by omega⟩, Fin.ext (by show l.val = 512 + (l.val - 512); omega)⟩
    have hi : ix2 r (colB l') = (oM.access colsB).emb (ix2 r l') := (colsB_idx r l').symm
    rw [hi, View.write_emb_of_mem _ _ (Finset.mem_univ _)]
    exact outB_at m ρ e r l'

/-- The result array at the end. -/
theorem finalA_out (c : Dev nD) : finalA m ρ c (2 : Fin 3) = out m ρ c := by
  unfold finalA
  refine (dats m ρ 0 c).arrAt_eq_of_after_last (2 : Fin 3) t0_0 (show win0_2.WholeAt t0_0 by decide +kernel) _ fun j => ?_
  blk_simp []
  rfl

/-! ## The reference -/

/-- The 1024 terms by device. -/
theorem sum_by_device (f : Fin 1024 → EReal) : (∑ k, f k) = ∑ d : Dev nD, ∑ k : Fin 256, f (row d k) := by
  rw [← (finProdFinEquiv (m := 4) (n := 256)).sum_comp, Fintype.sum_prod_type]
  refine Finset.sum_congr rfl fun d _ => Finset.sum_congr rfl fun k _ => congrArg f (Fin.ext ?_)
  show k.val + 256 * d.val = 256 * d.val + k.val
  omega

theorem ref_at (x w : FVec Ideal Cert.ReferenceIdeal.S1024x1024 .f32) (i l : Fin 1024) :
    (Host.dotGeneral Cert.ReferenceIdeal.dot_S1024x1024_S1024x1024_S1024x1024_1_0_0_1_n_n none x w : FVec Ideal Cert.ReferenceIdeal.S1024x1024 .f32) (ix2 i l)
      = ∑ k : Fin 1024, x (ix2 i k) * w (ix2 k l) := by
  pointwise

/-- Block `c` of an array cut along its rows, and along its columns. -/
theorem rows_block (v : FVec Ideal Cert.ReferenceIdeal.S1024x1024 .f32) (c : Dev nD) (r : Fin 256) (l : Fin 1024) :
    Layout.block ⟨2, ![256, 1024]⟩ ⟨2, ![1024, 1024]⟩ 0 4 c v (by decide) (ix2 r l) = v (ix2 (row c r) l) := by
  rw [Layout.block_apply]
  congr 1
  funext a
  apply Fin.ext
  fin_cases a
  · show c.val * 256 + r.val = 256 * c.val + r.val
    omega
  · rfl
theorem cols_block (v : FVec Ideal Cert.ReferenceIdeal.S1024x1024 .f32) (c : Dev nD) (i : Fin 1024) (k : Fin 256) :
    Layout.block ⟨2, ![1024, 256]⟩ ⟨2, ![1024, 1024]⟩ 1 4 c v (by decide) (ix2 i k) = v (ix2 i (row c k)) := by
  rw [Layout.block_apply]
  congr 1
  funext a
  apply Fin.ext
  fin_cases a
  · rfl
  · show c.val * 256 + k.val = 256 * c.val + k.val
    omega

theorem sum_parts (x w : FVec Ideal Cert.ReferenceIdeal.S1024x1024 .f32)
    (hx : ∀ d, X m d = Layout.block ⟨2, ![1024, 256]⟩ ⟨2, ![1024, 1024]⟩ 1 4 d x)
    (hw : ∀ d, W m d = Layout.block ⟨2, ![256, 1024]⟩ ⟨2, ![1024, 1024]⟩ 0 4 d w) (c : Dev nD) (r : Fin 256) (l : Fin 1024) :
    (∑ d, part m d c r l) = ∑ d : Dev nD, ∑ k : Fin 256, (x (ix2 (row c r) (row d k)) * w (ix2 (row d k) l) : EReal) :=
  Finset.sum_congr rfl fun d _ => Finset.sum_congr rfl fun k _ => by rw [hx d, hw d, cols_block, rows_block]

/-- Where the devices hold the blocks of `x` and `w`, device `c`'s result is its rows of the reference's. -/
theorem out_eq (x w : FVec Ideal Cert.ReferenceIdeal.S1024x1024 .f32)
    (hx : ∀ d, X m d = Layout.block ⟨2, ![1024, 256]⟩ ⟨2, ![1024, 1024]⟩ 1 4 d x)
    (hw : ∀ d, W m d = Layout.block ⟨2, ![256, 1024]⟩ ⟨2, ![1024, 1024]⟩ 0 4 d w) (c : Dev nD) :
    out m ρ c = Layout.block ⟨2, ![256, 1024]⟩ ⟨2, ![1024, 1024]⟩ 0 4 c
      (Host.dotGeneral Cert.ReferenceIdeal.dot_S1024x1024_S1024x1024_S1024x1024_1_0_0_1_n_n none x w : FVec Ideal Cert.ReferenceIdeal.S1024x1024 .f32) := by
  funext j
  obtain ⟨r, l, rfl⟩ : ∃ (r : Fin 256) (l : Fin 1024), j = ix2 r l := ⟨j 0, j 1, eq_ix2 j⟩
  refine (out_at m ρ c r l).trans (Eq.trans ?_ ((rows_block _ c r l).trans (ref_at x w (row c r) l)).symm)
  exact (sum_parts m x w hx hw c r l).trans (sum_by_device fun k => x (ix2 (row c r) k) * w (ix2 k l)).symm

theorem algebraic : Cert.algebraic_KernelIdeal_ReferenceIdeal := by
  intro m ρ m' ρ' _ hm
  refine ⟨_, (θ_run Cert.KernelIdeal.defs _ _).mono (fun r h c => ⟨?_, args_kept h.1 c⟩) (run_main (F := Ideal) m ρ),
    (θ_run Cert.ReferenceIdeal.defs _ _).mono (fun r h => h 0) (Cert.ReferenceIdeal.Value.run m' ρ')⟩
  exact (h.1 c (2 : Fin 3)).trans ((finalA_out m ρ c).trans (out_eq m ρ _ _ (fun d => (hm d).1) (fun d => (hm d).2) c))

end Cert.Mesh

end
-- ==== Proof.lean ====
/-
# The claims

A matrix product over four devices whose sum is scattered by rows: both texts of the kernel and the reference end without fault, leave
their arguments alone and have every semaphore counter at zero, and over the extended reals each device's result is its block of rows of
the reference's product.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.Mesh.frame_kernel, Cert.Mesh.frame_kernelIdeal, Cert.Mesh.frame_reference, trivial, Cert.Mesh.algebraic⟩

end Cert.Proof

end
